-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S4x1x5120 : Shape := ⟨3, ![4, 1, 5120]⟩
abbrev S27648x2560 : Shape := ⟨2, ![27648, 2560]⟩
abbrev S27648x160 : Shape := ⟨2, ![27648, 160]⟩
abbrev S_ : Shape := ⟨0, ![]⟩

class Facts : Prop where
  natLt_8_32 : 8 < 32
  bcast_S_S27648x160 : S_.BroadcastsInDim S27648x160 (![] : Fin 0 → Fin S27648x160.rank)

variable [Facts]

def fn {F : FTy → Type} [FloatOps F] (main_arg0 : FVec F S4x1x5120 .bf16) (main_arg1 : IVec S27648x2560 8) (main_arg2 : IVec S27648x160 8) : IVec S27648x160 1 :=
  let main_v0 : IVec S27648x160 32 := (extui 32 · natLt_8_32) main_arg2
  let main_c : IVec S_ 32 := constantI S_ 32 254#32
  let main_v1 : IVec S27648x160 32 := broadcastInDim S27648x160 ![] bcast_S_S27648x160 main_c
  let main_v2 : IVec S27648x160 1 := cmpi .sle main_v0 main_v1
  main_v2
-- ==== Kernel.lean ====
abbrev S4x1x5120 : Shape := ⟨3, ![4, 1, 5120]⟩
abbrev S27648x2560 : Shape := ⟨2, ![27648, 2560]⟩
abbrev S27648x160 : Shape := ⟨2, ![27648, 160]⟩
abbrev S4x5120 : Shape := ⟨2, ![4, 5120]⟩
abbrev S160x27648 : Shape := ⟨2, ![160, 27648]⟩
abbrev S4x27648 : Shape := ⟨2, ![4, 27648]⟩
abbrev S1024x2560 : Shape := ⟨2, ![1024, 2560]⟩
abbrev S160x1024 : Shape := ⟨2, ![160, 1024]⟩
abbrev S4x1024 : Shape := ⟨2, ![4, 1024]⟩
abbrev S160x128 : Shape := ⟨2, ![160, 128]⟩
abbrev S160x512 : Shape := ⟨2, ![160, 512]⟩
abbrev S80x32x256 : Shape := ⟨3, ![80, 32, 256]⟩
abbrev S2x160x128 : Shape := ⟨3, ![2, 160, 128]⟩
abbrev S64x128 : Shape := ⟨2, ![64, 128]⟩
abbrev S4x128 : Shape := ⟨2, ![4, 128]⟩
abbrev S128x512 : Shape := ⟨2, ![128, 512]⟩
abbrev S8x128 : Shape := ⟨2, ![8, 128]⟩
abbrev S8x512 : Shape := ⟨2, ![8, 512]⟩
abbrev S1x128 : Shape := ⟨2, ![1, 128]⟩
abbrev S32x128 : Shape := ⟨2, ![32, 128]⟩
abbrev S1x32x128 : Shape := ⟨3, ![1, 32, 128]⟩
abbrev S8x128x1 : Shape := ⟨3, ![8, 128, 1]⟩
abbrev S1x8x128 : Shape := ⟨3, ![1, 8, 128]⟩
abbrev S8x256 : Shape := ⟨2, ![8, 256]⟩
abbrev S512x128 : Shape := ⟨2, ![512, 128]⟩
abbrev S128x128 : Shape := ⟨2, ![128, 128]⟩
abbrev S128x256 : Shape := ⟨2, ![128, 256]⟩
abbrev S16x256 : Shape := ⟨2, ![16, 256]⟩
abbrev S32x256 : Shape := ⟨2, ![32, 256]⟩
abbrev S32x1x256 : Shape := ⟨3, ![32, 1, 256]⟩
abbrev S32x8x256 : Shape := ⟨3, ![32, 8, 256]⟩
abbrev S256x256 : Shape := ⟨2, ![256, 256]⟩
abbrev S1x32x256 : Shape := ⟨3, ![1, 32, 256]⟩

abbrev nBuf : Space → Nat
  | .hbm => 6
  | .vmem => 12
  | .smem => 0
  | _ => 0

abbrev bufTy : (tb : Table) → Fin (tcTables nBuf tb) → BufTy
  | .hbm, ⟨0, _⟩ => ⟨S4x1x5120, .bf16⟩
  | .hbm, ⟨1, _⟩ => ⟨S27648x2560, .i8⟩
  | .hbm, ⟨2, _⟩ => ⟨S27648x160, .i8⟩
  | .hbm, ⟨3, _⟩ => ⟨S4x5120, .bf16⟩
  | .hbm, ⟨4, _⟩ => ⟨S160x27648, .i8⟩
  | .hbm, ⟨5, _⟩ => ⟨S4x27648, .bf16⟩
  | .local _ .vmem, ⟨0, _⟩ => ⟨S4x5120, .bf16⟩
  | .local _ .vmem, ⟨1, _⟩ => ⟨S1024x2560, .i8⟩
  | .local _ .vmem, ⟨2, _⟩ => ⟨S1024x2560, .i8⟩
  | .local _ .vmem, ⟨3, _⟩ => ⟨S160x1024, .i8⟩
  | .local _ .vmem, ⟨4, _⟩ => ⟨S160x1024, .i8⟩
  | .local _ .vmem, ⟨5, _⟩ => ⟨S4x1024, .bf16⟩
  | .local _ .vmem, ⟨6, _⟩ => ⟨S4x1024, .bf16⟩
  | .local _ .vmem, ⟨7, _⟩ => ⟨S160x128, .f32⟩
  | .local _ .vmem, ⟨8, _⟩ => ⟨S160x512, .f32⟩
  | .local _ .vmem, ⟨9, _⟩ => ⟨S80x32x256, .bf16⟩
  | .local _ .vmem, ⟨10, _⟩ => ⟨S2x160x128, .i32⟩
  | .local _ .vmem, ⟨11, _⟩ => ⟨S64x128, .f32⟩
  | _, _ => ⟨S4x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2811 : BitVec 32 := 0#32
  let c20_i32 : BitVec 32 := 20#32
  let v8054 : BitVec 32 := Scalar.addi c0_i32_2811 c20_i32
  let c1_i32_2812 : BitVec 32 := 1#32
  ⟨c0_i32_2811, v8054, c1_i32_2812⟩
def k0_off1 (k0_t1 : Fin k0_t1_loop.trips) : Fin 2 → Nat :=
  let c8_i32_2814 : BitVec 32 := 8#32
  let c0_i32_2811 : BitVec 32 := 0#32
  let c1_i32_2812 : BitVec 32 := 1#32
  let arg10 : BitVec 32 := Scf.iv c0_i32_2811 c1_i32_2812 k0_t1
  let v8055 : BitVec 32 := Scalar.muli c8_i32_2814 arg10
  let v8056 : Index := Scalar.indexCast v8055
  let c0_2815 : Index := 0#32
  ![v8056.toNat, 0]
def k0_off2 (k0_t1 : Fin k0_t1_loop.trips) (c0_i32_2829 : BitVec 32) : Fin 3 → Nat :=
  let c0_i32_2811 : BitVec 32 := 0#32
  let c1_i32_2812 : BitVec 32 := 1#32
  let arg10 : BitVec 32 := Scf.iv c0_i32_2811 c1_i32_2812 k0_t1
  let c4_i32_2828 : BitVec 32 := 4#32
  let v8107 : BitVec 32 := Scalar.muli arg10 c4_i32_2828
  let v8108 : BitVec 32 := Scalar.addi v8107 c0_i32_2829
  let v8109 : Index := Scalar.indexCast v8108
  let c0_2830 : Index := 0#32
  let c0_2831 : Index := 0#32
  ![v8109.toNat, 0, 0]
def k0_off3 (k0_t1 : Fin k0_t1_loop.trips) (c0_i32_2845 : BitVec 32) : Fin 3 → Nat :=
  let c0_i32_2811 : BitVec 32 := 0#32
  let c1_i32_2812 : BitVec 32 := 1#32
  let arg10 : BitVec 32 := Scf.iv c0_i32_2811 c1_i32_2812 k0_t1
  let c4_i32_2844 : BitVec 32 := 4#32
  let v8162 : BitVec 32 := Scalar.muli arg10 c4_i32_2844
  let v8163 : BitVec 32 := Scalar.addi v8162 c0_i32_2845
  let v8164 : Index := Scalar.indexCast v8163
  let c0_2846 : Index := 0#32
  let c128_2847 : Index := 128#32
  ![v8164.toNat, 0, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x1x5120 : Shape := ⟨3, ![4, 1, 5120]⟩
abbrev S27648x2560 : Shape := ⟨2, ![27648, 2560]⟩
abbrev S27648x160 : Shape := ⟨2, ![27648, 160]⟩
abbrev S_ : Shape := ⟨0, ![]⟩
abbrev S27648x160x16 : Shape := ⟨3, ![27648, 160, 16]⟩
abbrev S27648x160x1 : Shape := ⟨3, ![27648, 160, 1]⟩
abbrev S4x1x160x16x2 : Shape := ⟨5, ![4, 1, 160, 16, 2]⟩
abbrev S4x1x160x16x1 : Shape := ⟨5, ![4, 1, 160, 16, 1]⟩
abbrev S4x1x160x16 : Shape := ⟨4, ![4, 1, 160, 16]⟩
abbrev S4x1x27648 : Shape := ⟨3, ![4, 1, 27648]⟩
abbrev S4x27648 : Shape := ⟨2, ![4, 27648]⟩

abbrev nBuf : Space → Nat
  | .hbm => 141
  | .vmem => 0
  | .smem => 0
  | _ => 0

abbrev hbmTy0_0 (i : Nat) : BufTy := match i % 128 with
  | 0 => ⟨S4x1x5120, .bf16⟩
  | 1 => ⟨S27648x2560, .i8⟩
  | 2 => ⟨S27648x160, .i8⟩
  | 3 => ⟨S27648x2560, .i32⟩
  | 4 => ⟨S_, .i32⟩
  | 5 => ⟨S27648x2560, .i32⟩
  | 6 => ⟨S27648x2560, .i32⟩
  | 7 => ⟨S27648x160x16, .i32⟩
  | 8 => ⟨S_, .i32⟩
  | 9 => ⟨S27648x2560, .i32⟩
  | 10 => ⟨S27648x2560, .i32⟩
  | 11 => ⟨S27648x160x16, .i32⟩
  | 12 => ⟨S27648x160, .i32⟩
  | 13 => ⟨S_, .i32⟩
  | 14 => ⟨S27648x160, .i32⟩
  | 15 => ⟨S27648x160, .i32⟩
  | 16 => ⟨S_, .f32⟩
  | 17 => ⟨S27648x160, .f32⟩
  | 18 => ⟨S27648x160, .f32⟩
  | 19 => ⟨S27648x160, .f32⟩
  | 20 => ⟨S_, .i32⟩
  | 21 => ⟨S27648x160, .i32⟩
  | 22 => ⟨S27648x160, .i1⟩
  | 23 => ⟨S_, .f32⟩
  | 24 => ⟨S_, .f32⟩
  | 25 => ⟨S27648x160, .f32⟩
  | 26 => ⟨S27648x160, .f32⟩
  | 27 => ⟨S27648x160, .bf16⟩
  | 28 => ⟨S27648x160x1, .bf16⟩
  | 29 => ⟨S_, .i32⟩
  | 30 => ⟨S27648x160x16, .i32⟩
  | 31 => ⟨S27648x160x16, .i32⟩
  | 32 => ⟨S_, .i32⟩
  | 33 => ⟨S27648x160x16, .i32⟩
  | 34 => ⟨S27648x160x16, .i1⟩
  | 35 => ⟨S_, .i32⟩
  | 36 => ⟨S27648x160x16, .i32⟩
  | 37 => ⟨S27648x160x16, .i32⟩
  | 38 => ⟨S_, .i32⟩
  | 39 => ⟨S27648x160x16, .i32⟩
  | 40 => ⟨S27648x160x16, .i1⟩
  | 41 => ⟨S_, .i32⟩
  | 42 => ⟨S27648x160x16, .i32⟩
  | 43 => ⟨S27648x160x16, .i32⟩
  | 44 => ⟨S_, .i32⟩
  | 45 => ⟨S27648x160x16, .i32⟩
  | 46 => ⟨S27648x160x16, .i1⟩
  | 47 => ⟨S_, .i32⟩
  | 48 => ⟨S27648x160x16, .i32⟩
  | 49 => ⟨S27648x160x16, .i32⟩
  | 50 => ⟨S_, .i32⟩
  | 51 => ⟨S27648x160x16, .i32⟩
  | 52 => ⟨S27648x160x16, .i1⟩
  | 53 => ⟨S_, .bf16⟩
  | 54 => ⟨S_, .bf16⟩
  | 55 => ⟨S27648x160x16, .bf16⟩
  | 56 => ⟨S27648x160x16, .bf16⟩
  | 57 => ⟨S27648x160x16, .bf16⟩
  | 58 => ⟨S_, .bf16⟩
  | 59 => ⟨S_, .bf16⟩
  | 60 => ⟨S27648x160x16, .bf16⟩
  | 61 => ⟨S27648x160x16, .bf16⟩
  | 62 => ⟨S27648x160x16, .bf16⟩
  | 63 => ⟨S_, .bf16⟩
  | 64 => ⟨S_, .bf16⟩
  | 65 => ⟨S27648x160x16, .bf16⟩
  | 66 => ⟨S27648x160x16, .bf16⟩
  | 67 => ⟨S27648x160x16, .bf16⟩
  | 68 => ⟨S_, .bf16⟩
  | 69 => ⟨S_, .bf16⟩
  | 70 => ⟨S27648x160x16, .bf16⟩
  | 71 => ⟨S27648x160x16, .bf16⟩
  | 72 => ⟨S27648x160x16, .bf16⟩
  | 73 => ⟨S27648x160x16, .bf16⟩
  | 74 => ⟨S27648x160x16, .bf16⟩
  | 75 => ⟨S27648x160x16, .bf16⟩
  | 76 => ⟨S27648x160x16, .bf16⟩
  | 77 => ⟨S27648x160x16, .bf16⟩
  | 78 => ⟨S27648x160x16, .bf16⟩
  | 79 => ⟨S27648x160x16, .bf16⟩
  | 80 => ⟨S_, .i32⟩
  | 81 => ⟨S27648x160x16, .i32⟩
  | 82 => ⟨S27648x160x16, .i32⟩
  | 83 => ⟨S_, .i32⟩
  | 84 => ⟨S27648x160x16, .i32⟩
  | 85 => ⟨S27648x160x16, .i1⟩
  | 86 => ⟨S_, .i32⟩
  | 87 => ⟨S27648x160x16, .i32⟩
  | 88 => ⟨S27648x160x16, .i32⟩
  | 89 => ⟨S_, .i32⟩
  | 90 => ⟨S27648x160x16, .i32⟩
  | 91 => ⟨S27648x160x16, .i1⟩
  | 92 => ⟨S_, .i32⟩
  | 93 => ⟨S27648x160x16, .i32⟩
  | 94 => ⟨S27648x160x16, .i32⟩
  | 95 => ⟨S_, .i32⟩
  | 96 => ⟨S27648x160x16, .i32⟩
  | 97 => ⟨S27648x160x16, .i1⟩
  | 98 => ⟨S_, .i32⟩
  | 99 => ⟨S27648x160x16, .i32⟩
  | 100 => ⟨S27648x160x16, .i32⟩
  | 101 => ⟨S_, .i32⟩
  | 102 => ⟨S27648x160x16, .i32⟩
  | 103 => ⟨S27648x160x16, .i1⟩
  | 104 => ⟨S_, .bf16⟩
  | 105 => ⟨S_, .bf16⟩
  | 106 => ⟨S27648x160x16, .bf16⟩
  | 107 => ⟨S27648x160x16, .bf16⟩
  | 108 => ⟨S27648x160x16, .bf16⟩
  | 109 => ⟨S_, .bf16⟩
  | 110 => ⟨S_, .bf16⟩
  | 111 => ⟨S27648x160x16, .bf16⟩
  | 112 => ⟨S27648x160x16, .bf16⟩
  | 113 => ⟨S27648x160x16, .bf16⟩
  | 114 => ⟨S_, .bf16⟩
  | 115 => ⟨S_, .bf16⟩
  | 116 => ⟨S27648x160x16, .bf16⟩
  | 117 => ⟨S27648x160x16, .bf16⟩
  | 118 => ⟨S27648x160x16, .bf16⟩
  | 119 => ⟨S_, .bf16⟩
  | 120 => ⟨S_, .bf16⟩
  | 121 => ⟨S27648x160x16, .bf16⟩
  | 122 => ⟨S27648x160x16, .bf16⟩
  | 123 => ⟨S27648x160x16, .bf16⟩
  | 124 => ⟨S27648x160x16, .bf16⟩
  | 125 => ⟨S27648x160x16, .bf16⟩
  | 126 => ⟨S27648x160x16, .bf16⟩
  | 127 => ⟨S27648x160x16, .bf16⟩
  | _ => ⟨S4x1x5120, .bf16⟩

abbrev hbmTy0_1 (i : Nat) : BufTy := match i % 128 with
  | 0 => ⟨S27648x160x16, .bf16⟩
  | 1 => ⟨S27648x160x16, .bf16⟩
  | 2 => ⟨S27648x160x16, .bf16⟩
  | 3 => ⟨S4x1x160x16x2, .bf16⟩
  | 4 => ⟨S4x1x160x16x1, .bf16⟩
  | 5 => ⟨S4x1x160x16, .bf16⟩
  | 6 => ⟨S4x1x27648, .f32⟩
  | 7 => ⟨S4x1x160x16x1, .bf16⟩
  | 8 => ⟨S4x1x160x16, .bf16⟩
  | 9 => ⟨S4x1x27648, .f32⟩
  | 10 => ⟨S4x1x27648, .f32⟩
  | 11 => ⟨S4x1x27648, .bf16⟩
  | 12 => ⟨S4x27648, .bf16⟩
  | _ => ⟨S4x1x5120, .bf16⟩

abbrev hbmTy (i : Nat) : BufTy := match i / 128 with
  | 0 => hbmTy0_0 i
  | 1 => hbmTy0_1 i
  | _ => ⟨S4x1x5120, .bf16⟩

abbrev bufTy : (tb : Table) → Fin (tcTables nBuf tb) → BufTy
  | .hbm, ⟨i, _⟩ => hbmTy i
  | _, _ => ⟨S4x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_c_9 : Ref sig .tc := ⟨.hbm, 44, rfl⟩
abbrev main_v28 : Ref sig .tc := ⟨.hbm, 45, rfl⟩
abbrev main_v29 : Ref sig .tc := ⟨.hbm, 46, rfl⟩
abbrev main_c_10 : Ref sig .tc := ⟨.hbm, 47, rfl⟩
abbrev main_v30 : Ref sig .tc := ⟨.hbm, 48, rfl⟩
abbrev main_v31 : Ref sig .tc := ⟨.hbm, 49, rfl⟩
abbrev main_c_11 : Ref sig .tc := ⟨.hbm, 50, rfl⟩
abbrev main_v32 : Ref sig .tc := ⟨.hbm, 51, rfl⟩
abbrev main_v33 : Ref sig .tc := ⟨.hbm, 52, rfl⟩
abbrev main_cst_12 : Ref sig .tc := ⟨.hbm, 53, rfl⟩
abbrev main_cst_13 : Ref sig .tc := ⟨.hbm, 54, rfl⟩
abbrev main_call1_v0 : Ref sig .tc := ⟨.hbm, 55, rfl⟩
abbrev main_call1_v1 : Ref sig .tc := ⟨.hbm, 56, rfl⟩
abbrev main_v34 : Ref sig .tc := ⟨.hbm, 57, rfl⟩
abbrev main_cst_14 : Ref sig .tc := ⟨.hbm, 58, rfl⟩
abbrev main_cst_15 : Ref sig .tc := ⟨.hbm, 59, rfl⟩
abbrev main_call2_v0 : Ref sig .tc := ⟨.hbm, 60, rfl⟩
abbrev main_call2_v1 : Ref sig .tc := ⟨.hbm, 61, rfl⟩
abbrev main_v35 : Ref sig .tc := ⟨.hbm, 62, rfl⟩
abbrev main_cst_16 : Ref sig .tc := ⟨.hbm, 63, rfl⟩
abbrev main_cst_17 : Ref sig .tc := ⟨.hbm, 64, rfl⟩
abbrev main_call3_v0 : Ref sig .tc := ⟨.hbm, 65, rfl⟩
abbrev main_call3_v1 : Ref sig .tc := ⟨.hbm, 66, rfl⟩
abbrev main_v36 : Ref sig .tc := ⟨.hbm, 67, rfl⟩
abbrev main_cst_18 : Ref sig .tc := ⟨.hbm, 68, rfl⟩
abbrev main_cst_19 : Ref sig .tc := ⟨.hbm, 69, rfl⟩
abbrev main_call4_v0 : Ref sig .tc := ⟨.hbm, 70, rfl⟩
abbrev main_call4_v1 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_20 : Ref sig .tc := ⟨.hbm, 80, rfl⟩
abbrev main_v45 : Ref sig .tc := ⟨.hbm, 81, rfl⟩
abbrev main_v46 : Ref sig .tc := ⟨.hbm, 82, rfl⟩
abbrev main_c_21 : Ref sig .tc := ⟨.hbm, 83, rfl⟩
abbrev main_v47 : Ref sig .tc := ⟨.hbm, 84, rfl⟩
abbrev main_v48 : Ref sig .tc := ⟨.hbm, 85, rfl⟩
abbrev main_c_22 : Ref sig .tc := ⟨.hbm, 86, rfl⟩
abbrev main_v49 : Ref sig .tc := ⟨.hbm, 87, rfl⟩
abbrev main_v50 : Ref sig .tc := ⟨.hbm, 88, rfl⟩
abbrev main_c_23 : Ref sig .tc := ⟨.hbm, 89, rfl⟩
abbrev main_v51 : Ref sig .tc := ⟨.hbm, 90, rfl⟩
abbrev main_v52 : Ref sig .tc := ⟨.hbm, 91, rfl⟩
abbrev main_c_24 : Ref sig .tc := ⟨.hbm, 92, rfl⟩
abbrev main_v53 : Ref sig .tc := ⟨.hbm, 93, rfl⟩
abbrev main_v54 : Ref sig .tc := ⟨.hbm, 94, rfl⟩
abbrev main_c_25 : Ref sig .tc := ⟨.hbm, 95, rfl⟩
abbrev main_v55 : Ref sig .tc := ⟨.hbm, 96, rfl⟩
abbrev main_v56 : Ref sig .tc := ⟨.hbm, 97, rfl⟩
abbrev main_c_26 : Ref sig .tc := ⟨.hbm, 98, rfl⟩
abbrev main_v57 : Ref sig .tc := ⟨.hbm, 99, rfl⟩
abbrev main_v58 : Ref sig .tc := ⟨.hbm, 100, rfl⟩
abbrev main_c_27 : Ref sig .tc := ⟨.hbm, 101, rfl⟩
abbrev main_v59 : Ref sig .tc := ⟨.hbm, 102, rfl⟩
abbrev main_v60 : Ref sig .tc := ⟨.hbm, 103, rfl⟩
abbrev main_cst_28 : Ref sig .tc := ⟨.hbm, 104, rfl⟩
abbrev main_cst_29 : Ref sig .tc := ⟨.hbm, 105, rfl⟩
abbrev main_call9_v0 : Ref sig .tc := ⟨.hbm, 106, rfl⟩
abbrev main_call9_v1 : Ref sig .tc := ⟨.hbm, 107, rfl⟩
abbrev main_v61 : Ref sig .tc := ⟨.hbm, 108, rfl⟩
abbrev main_cst_30 : Ref sig .tc := ⟨.hbm, 109, rfl⟩
abbrev main_cst_31 : Ref sig .tc := ⟨.hbm, 110, rfl⟩
abbrev main_call10_v0 : Ref sig .tc := ⟨.hbm, 111, rfl⟩
abbrev main_call10_v1 : Ref sig .tc := ⟨.hbm, 112, rfl⟩
abbrev main_v62 : Ref sig .tc := ⟨.hbm, 113, rfl⟩
abbrev main_cst_32 : Ref sig .tc := ⟨.hbm, 114, rfl⟩
abbrev main_cst_33 : Ref sig .tc := ⟨.hbm, 115, rfl⟩
abbrev main_call11_v0 : Ref sig .tc := ⟨.hbm, 116, rfl⟩
abbrev main_call11_v1 : Ref sig .tc := ⟨.hbm, 117, rfl⟩
abbrev main_v63 : Ref sig .tc := ⟨.hbm, 118, rfl⟩
abbrev main_cst_34 : Ref sig .tc := ⟨.hbm, 119, rfl⟩
abbrev main_cst_35 : Ref sig .tc := ⟨.hbm, 120, rfl⟩
abbrev main_call12_v0 : Ref sig .tc := ⟨.hbm, 121, rfl⟩
abbrev main_call12_v1 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩

abbrev nD : Nat := 1
abbrev τ : Topo := Topo.v7x

variable {F : FTy → Type} [FloatOps F]
-- ==== Proof.Spec.lean ====
module

public import Idealize.ShloMosaic.PureOps
public import Idealize.ShloMosaic.Lib.Pointwise
public import Idealize.ShloMosaic.Lib.IdealHost

@[expose] public section

/-! The mathematics both programs compute: a product with a matrix of 4-bit floats, scaled by one power of two per 32
    columns. -/

noncomputable section

namespace Cert.Spec

open Idealize.ShloMosaic

/-- The magnitude of a 4-bit float code (two exponent bits, one mantissa bit), doubled. -/
def twice (k : Nat) : Nat := match k with
  | 0 => 0 | 1 => 1 | 2 => 2 | 3 => 3 | 4 => 4 | 5 => 6 | 6 => 8 | _ => 12

/-- The number a 4-bit float code stands for: the top bit is the sign. -/
def e2m1 (c : BitVec 4) : EReal :=
  (((if c.toNat < 8 then (twice c.toNat : ℝ) else -(twice (c.toNat - 8) : ℝ)) / 2 : ℝ) : EReal)

/-- The low (`par = 0`) or high (`par = 1`) four bits of a byte. -/
def nib (par : Nat) (b : BitVec 8) : BitVec 4 := b.extractLsb' (4 * par) 4

/-- The scale a byte stands for: `2 ^ (e - 127)`, and zero for byte 0, whose power is below the normal numbers. -/
def scaleOf (e : BitVec 8) : EReal := if e.toNat = 0 then 0 else (((2 : ℝ) ^ ((e.toNat : ℤ) - 127) : ℝ) : EReal)

/-- A scale is not negative. -/
theorem scaleOf_nonneg (e : BitVec 8) : 0 ≤ scaleOf e := by
  unfold scaleOf
  split
  · exact le_refl _
  · exact EReal.coe_nonneg.mpr (zpow_nonneg (by norm_num) _)

/-- A scale is finite. -/
theorem scaleOf_ne_top (e : BitVec 8) : scaleOf e ≠ ⊤ := by
  unfold scaleOf
  split
  · exact EReal.zero_ne_top
  · exact EReal.coe_ne_top _

/-- A scale times a finite sum is the sum of the scaled terms: a scale is a nonnegative real number. -/
theorem sum_mul_scaleOf {ι : Type*} (t : Finset ι) (f : ι → EReal) (e : BitVec 8) :
    (∑ i ∈ t, f i) * scaleOf e = ∑ i ∈ t, f i * scaleOf e := by
  classical
  induction t using Finset.induction_on with
  | empty => simp
  | insert a s ha ih =>
    rw [Finset.sum_insert ha, Finset.sum_insert ha, ← ih,
      EReal.right_distrib_of_nonneg_of_ne_top (scaleOf_nonneg e) (scaleOf_ne_top e)]

/-- Entry `(b, o)` of the product, from the argument arrays: group `G` of 32 columns holds 16 bytes, each two codes, and
    has one scale. -/
def out (x : (⟨3, ![4, 1, 5120]⟩ : Shape).Idx → EReal) (w : (⟨2, ![27648, 2560]⟩ : Shape).Idx → BitVec 8)
    (s : (⟨2, ![27648, 160]⟩ : Shape).Idx → BitVec 8) (b : Fin 4) (o : Fin 27648) : EReal :=
  ∑ G : Fin 160, (∑ p : Fin 16,
      (x (ix3 b 0 ⟨32 * G.val + 2 * p.val, by omega⟩) * e2m1 (nib 0 (w (ix2 o ⟨16 * G.val + p.val, by omega⟩)))
        + x (ix3 b 0 ⟨32 * G.val + 2 * p.val + 1, by omega⟩)
          * e2m1 (nib 1 (w (ix2 o ⟨16 * G.val + p.val, by omega⟩)))))
    * scaleOf (s (ix2 o G))

/-- Entry `(b, o)` with every code scaled first and the even and the odd columns summed apart is the same number. -/
theorem out_eq_split (x : (⟨3, ![4, 1, 5120]⟩ : Shape).Idx → EReal) (w : (⟨2, ![27648, 2560]⟩ : Shape).Idx → BitVec 8)
    (s : (⟨2, ![27648, 160]⟩ : Shape).Idx → BitVec 8) (b : Fin 4) (o : Fin 27648) :
    (∑ G : Fin 160, ∑ p : Fin 16, x (ix3 b 0 ⟨32 * G.val + 2 * p.val, by omega⟩)
        * (e2m1 (nib 0 (w (ix2 o ⟨16 * G.val + p.val, by omega⟩))) * scaleOf (s (ix2 o G))))
      + (∑ G : Fin 160, ∑ p : Fin 16, x (ix3 b 0 ⟨32 * G.val + 2 * p.val + 1, by omega⟩)
        * (e2m1 (nib 1 (w (ix2 o ⟨16 * G.val + p.val, by omega⟩))) * scaleOf (s (ix2 o G))))
      = out x w s b o := by
  unfold out
  rw [← Finset.sum_add_distrib]
  refine Finset.sum_congr rfl fun G _ => ?_
  rw [sum_mul_scaleOf, ← Finset.sum_add_distrib]
  refine Finset.sum_congr rfl fun p _ => ?_
  rw [EReal.right_distrib_of_nonneg_of_ne_top (scaleOf_nonneg _) (scaleOf_ne_top _), mul_assoc, mul_assoc]

end Cert.Spec

end
-- ==== Proof.RefValue.lean ====
module

public import proofs.«01_k».proof.Proof.Spec
public import proofs.«01_k».proof.Proof.Gen.ReferenceIdeal.Read
public import Idealize.ShloMosaic.Lib.Pointwise
public import Idealize.ShloMosaic.Lib.TwoAxisContraction

@[expose] public section

/-! The reference's result, read at an index. -/

set_option maxRecDepth 16384

noncomputable section

namespace Cert.RefValue

open Cert.ReferenceIdeal Cert.ReferenceIdeal.Gen Cert.ReferenceIdeal.Read Cert.Spec
open Idealize.ShloMosaic

/-- The selection the reference decodes a code with, at a code word `n`. -/
def pick (n : BitVec 32) : EReal :=
  let f (k : BitVec 32) : BitVec 1 := IntOp.cmpi .ne (IntOp.andi n k) 0#32
  let c (k : BitVec 16) : EReal := Ideal.ofBits .bf16 k
  let l0 := Scalar.select (f 1#32) (c 0x3F00#16) (c 0x0000#16)
  let l1 := Scalar.select (f 1#32) (c 0x3FC0#16) (c 0x3F80#16)
  let l2 := Scalar.select (f 1#32) (c 0x4040#16) (c 0x4000#16)
  let l3 := Scalar.select (f 1#32) (c 0x40C0#16) (c 0x4080#16)
  let mag := Scalar.select (f 4#32) (Scalar.select (f 2#32) l3 l2) (Scalar.select (f 2#32) l1 l0)
  Scalar.select (f 8#32) (-mag) mag

/-- The pattern of one half. -/
theorem bf16_half : Ideal.ofBits .bf16 0x3F00#16 = ((1 / 2 : ℝ) : EReal) := by
  simp [Ideal.ofBits, Ideal.ieee, -EReal.coe_mul]; norm_num
/-- The pattern of three halves. -/
theorem bf16_three_halves : Ideal.ofBits .bf16 0x3FC0#16 = ((3 / 2 : ℝ) : EReal) := by
  simp [Ideal.ofBits, Ideal.ieee, -EReal.coe_mul]; norm_num
/-- The pattern of two. -/
theorem bf16_two : Ideal.ofBits .bf16 0x4000#16 = ((2 : ℝ) : EReal) := by
  simp [Ideal.ofBits, Ideal.ieee, -EReal.coe_mul]; norm_num
/-- The pattern of three. -/
theorem bf16_three : Ideal.ofBits .bf16 0x4040#16 = ((3 : ℝ) : EReal) := by
  simp [Ideal.ofBits, Ideal.ieee, -EReal.coe_mul]; norm_num
/-- The pattern of four. -/
theorem bf16_four : Ideal.ofBits .bf16 0x4080#16 = ((4 : ℝ) : EReal) := by
  simp [Ideal.ofBits, Ideal.ieee, -EReal.coe_mul]; norm_num
/-- The pattern of six. -/
theorem bf16_six : Ideal.ofBits .bf16 0x40C0#16 = ((6 : ℝ) : EReal) := by
  simp [Ideal.ofBits, Ideal.ieee, -EReal.coe_mul]; norm_num

/-- The selection yields the number the code stands for. -/
theorem pick_eq (n : BitVec 4) : pick (n.setWidth 32) = e2m1 n := by
  obtain ⟨k, hk, rfl⟩ : ∃ k < 16, n = BitVec.ofNat 4 k := ⟨n.toNat, n.isLt, by simp⟩
  unfold pick e2m1 twice
  simp only [bf16_half, bf16_three_halves, bf16_two, bf16_three, bf16_four, bf16_six, Ideal.ofBits_zero_bf16,
    Ideal.ofBits_one_bf16]
  interval_cases k <;>
    simp [Scalar.select, IntOp.cmpi, IntOp.andi, ← EReal.coe_neg] <;> norm_num

variable (x : (⟨S4x1x5120, .bf16⟩ : BufTy).Contents (Elt Ideal)) (w : (⟨S27648x2560, .i8⟩ : BufTy).Contents (Elt Ideal))
  (s : (⟨S27648x160, .i8⟩ : BufTy).Contents (Elt Ideal))

/-- The low codes' numbers are the selection at the low code words. -/
theorem v42_pick (i : S27648x160x16.Idx) : val_main_v42 (F := Ideal) w i = pick (val_main_v3 (F := Ideal) w i) := by
  rfl

/-- The high codes' numbers are the selection at the high code words. -/
theorem v69_pick (i : S27648x160x16.Idx) : val_main_v69 (F := Ideal) w i = pick (val_main_v6 (F := Ideal) w i) := by
  rfl

/-- The low four bits of a byte, as a word. -/
theorem low_word (b : BitVec 8) : IntOp.andi (b.setWidth 32) 15#32 = (nib 0 b).setWidth 32 := by
  revert b; decide +kernel

/-- The high four bits of a byte, as a word. -/
theorem high_word (b : BitVec 8) : IntOp.shrsi .host (b.setWidth 32) 4#32 = (nib 1 b).setWidth 32 := by
  revert b; decide +kernel

/-- The low code word of byte `p` of group `G`. -/
theorem v3_apply (o : Fin 27648) (G : Fin 160) (p : Fin 16) :
    val_main_v3 (F := Ideal) w (ix3 o G p) = (nib 0 (w (ix2 o ⟨16 * G.val + p.val, by omega⟩))).setWidth 32 := by
  rw [← low_word]
  unfold val_main_v3 val_main_v2 val_main_v1 val_main_v0 val_main_c
  pointwise
  simp only [Nat.mul_comm]

/-- The high code word of byte `p` of group `G`. -/
theorem v6_apply (o : Fin 27648) (G : Fin 160) (p : Fin 16) :
    val_main_v6 (F := Ideal) w (ix3 o G p) = (nib 1 (w (ix2 o ⟨16 * G.val + p.val, by omega⟩))).setWidth 32 := by
  rw [← high_word]
  unfold val_main_v6 val_main_v5 val_main_v4 val_main_v0 val_main_c_0
  pointwise
  simp only [Nat.mul_comm]

/-- Two to the power of an exponent byte less its bias, or zero for byte 0. -/
theorem pow_scaleOf (e : BitVec 8) : Scalar.select (IntOp.cmpi .eq (e.setWidth 32 - 127#32) 4294967169#32)
    (0 : EReal) (Ideal.pow (Ideal.ofBits .f32 0x40000000#32)
      (((e.setWidth 32 - 127#32).toInt : ℝ) : EReal)) = scaleOf e := by
  have h2 : Ideal.ofBits .f32 0x40000000#32 = ((2 : ℝ) : EReal) := by
    simp [Ideal.ofBits, Ideal.ieee, -EReal.coe_mul]; norm_num
  have hi : (e.setWidth 32 - 127#32).toInt = (e.toNat : ℤ) - 127 := by revert e; decide +kernel
  have hc : IntOp.cmpi .eq (e.setWidth 32 - 127#32) 4294967169#32 = if e.toNat = 0 then 1#1 else 0#1 := by
    revert e; decide +kernel
  rw [h2, hi, hc, Ideal.pow_coe_coe, scaleOf, Real.rpow_eq_pow, Real.rpow_intCast]
  by_cases h0 : e.toNat = 0
  · rw [if_pos h0, if_pos h0]; rfl
  · rw [if_neg h0, if_neg h0]; rfl

/-- The scale of group `G` of output `o`. -/
theorem v16_apply (o : Fin 27648) (G : Fin 160) : val_main_v16 (F := Ideal) s (ix2 o G) = scaleOf (s (ix2 o G)) := by
  rw [← pow_scaleOf]
  unfold val_main_v16 val_main_v15 val_main_v14 val_main_v13 val_main_v12 val_main_v11 val_main_v10 val_main_v9 val_main_v8
    val_main_v7 val_main_cst val_main_c_1 val_main_c_2 val_main_call0_v1 val_main_call0_v0 val_main_cst_3
  pointwise
  exact congrArg (fun z : EReal => Scalar.select _ z _) Ideal.ofBits_zero_f32

/-- The scale each low code is multiplied by. -/
theorem v43_apply (o : Fin 27648) (G : Fin 160) (p : Fin 16) :
    val_main_v43 (F := Ideal) s (ix3 o G p) = scaleOf (s (ix2 o G)) := by
  rw [← v16_apply]
  unfold val_main_v43 val_main_v17
  pointwise

/-- The scale each high code is multiplied by. -/
theorem v70_apply (o : Fin 27648) (G : Fin 160) (p : Fin 16) :
    val_main_v70 (F := Ideal) s (ix3 o G p) = scaleOf (s (ix2 o G)) := by
  rw [← v16_apply]
  unfold val_main_v70 val_main_v17
  pointwise

/-- The even columns of the argument, group by group. -/
theorem v74_apply (b : Fin 4) (G : Fin 160) (p : Fin 16) :
    val_main_v74 (F := Ideal) x (ix4 b 0 G p) = x (ix3 b 0 ⟨32 * G.val + 2 * p.val, by omega⟩) := by
  unfold val_main_v74 val_main_v73 val_main_v72
  pointwise
  simp only [Nat.mul_comm]

/-- The odd columns of the argument, group by group. -/
theorem v77_apply (b : Fin 4) (G : Fin 160) (p : Fin 16) :
    val_main_v77 (F := Ideal) x (ix4 b 0 G p) = x (ix3 b 0 ⟨32 * G.val + 2 * p.val + 1, by omega⟩) := by
  unfold val_main_v77 val_main_v76 val_main_v72
  pointwise
  simp only [Nat.mul_comm]

/-- The product of the even columns with the low codes. -/
theorem v75_apply (b : Fin 4) (o : Fin 27648) : val_main_v75 (F := Ideal) x w s (ix3 b 0 o) =
    ∑ G : Fin 160, ∑ p : Fin 16, val_main_v74 (F := Ideal) x (ix4 b 0 G p) * val_main_v44 (F := Ideal) w s (ix3 o G p) := by
  unfold val_main_v75
  pointwise

/-- The product of the odd columns with the high codes. -/
theorem v78_apply (b : Fin 4) (o : Fin 27648) : val_main_v78 (F := Ideal) x w s (ix3 b 0 o) =
    ∑ G : Fin 160, ∑ p : Fin 16, val_main_v77 (F := Ideal) x (ix4 b 0 G p) * val_main_v71 (F := Ideal) w s (ix3 o G p) := by
  unfold val_main_v78
  pointwise

/-- THE REFERENCE'S RESULT. -/
theorem result (b : Fin 4) (o : Fin 27648) : val_main_v81 (F := Ideal) x w s (ix2 b o) = out x w s b o := by
  have h : val_main_v81 (F := Ideal) x w s (ix2 b o) =
      val_main_v75 (F := Ideal) x w s (ix3 b 0 o) + val_main_v78 (F := Ideal) x w s (ix3 b 0 o) := by
    unfold val_main_v81 val_main_v80 val_main_v79
    pointwise
  rw [h, v75_apply, v78_apply, ← out_eq_split]
  congr 1
  · refine Finset.sum_congr rfl fun G _ => Finset.sum_congr rfl fun p _ => ?_
    rw [v74_apply, val_main_v44_apply, v42_pick, v3_apply, pick_eq, v43_apply]
    rfl
  · refine Finset.sum_congr rfl fun G _ => Finset.sum_congr rfl fun p _ => ?_
    rw [v77_apply, val_main_v71_apply, v69_pick, v6_apply, pick_eq, v70_apply]
    rfl

end Cert.RefValue

end
-- ==== Proof.Model.lean ====
module

public import proofs.«01_k».proof.Proof.Gen.KernelIdeal
public import Idealize.ShloMosaic.PureOps
public import Idealize.ShloMosaic.Lib.IdealHost
public import Idealize.ShloMosaic.Lib.ValueIdx

@[expose] public section

/-! The kernel's body in closed form: the same vector operations, written once per repeated step. -/

noncomputable section

namespace Cert.Model

open Idealize.ShloMosaic Cert.KernelIdeal Cert.KernelIdeal.Gen

/-! ## Index vectors -/

/-- The lane number at each entry. -/
def lane : IVec S8x128 32 := iota .tc S8x128 32 [1] iota_S8x128_d1_w32

/-- A constant vector. -/
abbrev bc (n : BitVec 32) : IVec S8x128 32 := broadcast S8x128 n

/-- Division by `n`, rounded down, as the body computes it. -/
def floorDiv {s : Shape} (n : BitVec 32) (v : IVec s 32) : IVec s 32 :=
  select (andi (cmpi .ne (subi (extui 32 (cmpi .sgt v (broadcast s 0#32)) natLt_1_32)
          (extui 32 (cmpi .slt v (broadcast s 0#32)) natLt_1_32))
        (broadcast s (Scalar.subi (Scalar.extui (Scalar.cmpi .sgt n 0#32)) (Scalar.extui (Scalar.cmpi .slt n 0#32)))))
      (cmpi .ne (remsi v (broadcast s n)) (broadcast s 0#32)))
    (subi (divsi v (broadcast s n)) (broadcast s 1#32)) (divsi v (broadcast s n))

/-- The remainder of that division, as the body computes it. -/
def floorMod {s : Shape} (hs : s.Broadcasts s) (n : BitVec 32) (v : IVec s 32) : IVec s 32 :=
  select (andi (xori (cmpi .slt (remsi v (broadcast s n)) (broadcast s 0#32))
        (broadcastTo s (broadcast s (Scalar.cmpi .slt n 0#32)) hs))
      (cmpi .ne (remsi v (broadcast s n)) (broadcast s 0#32)))
    (addi (remsi v (broadcast s n)) (broadcast s n)) (remsi v (broadcast s n))

/-- A vector of lane numbers, made ready for a gather (a negative number counts from the end). -/
def takeIdx (v : IVec S8x128 32) : IVec S8x128 32 :=
  shapeCast S8x128 (shapeCast S8x128x1 (select (cmpi .slt v (bc 0#32)) (addi v (bc 128#32)) v) shapeCasts_S8x128_S8x128x1)
    shapeCasts_S8x128x1_S8x128

/-! ## The scale words -/

/-- Scale words: four rows of scale bytes as one row of words, gathered so that the lanes the quarter `m` supplies
    meet their place. -/
def src (m : BitVec 32) (b : IVec S32x128 8) : IVec S8x128 32 :=
  dynamicGather 1 (bitcast S8x128 32 (shapeCast S32x128 b shapeCasts_S32x128_S32x128) bitcasts_S32x128_w8_S8x128_w32)
    (takeIdx (addi (muli (bc 4#32) (floorMod broadcasts_S8x128_S8x128 32#32 lane)) (floorMod broadcasts_S8x128_S8x128 4#32 (subi (floorDiv 32#32 lane) (bc m)))))

/-- The quarters' words merged: quarter `k` of the lanes takes source `k - c`. -/
def merge (k1 k2 k3 : BitVec 32) (s0 s1 s2 s3 : IVec S8x128 32) : IVec S8x128 32 :=
  select (cmpi .eq (floorDiv 32#32 lane) (bc k3)) s3
    (select (cmpi .eq (floorDiv 32#32 lane) (bc k2)) s2 (select (cmpi .eq (floorDiv 32#32 lane) (bc k1)) s1 s0))

/-- The merged words for output residue `c`, rolled into place. -/
def spVal (c : Fin 4) (s0 s1 s2 s3 : IVec S8x128 32) : IVec S1x8x128 32 :=
  match c with
  | 0 => shapeCast S1x8x128 (merge 1#32 2#32 3#32 s0 s1 s2 s3) shapeCasts_S8x128_S1x8x128
  | 1 => shapeCast S1x8x128 (dynamicRotate 1 96#32 none (merge 2#32 3#32 0#32 s0 s1 s2 s3) rotates_S8x128_d1)
      shapeCasts_S8x128_S1x8x128
  | 2 => shapeCast S1x8x128 (dynamicRotate 1 64#32 none (merge 3#32 0#32 1#32 s0 s1 s2 s3) rotates_S8x128_d1)
      shapeCasts_S8x128_S1x8x128
  | 3 => shapeCast S1x8x128 (dynamicRotate 1 32#32 none (merge 0#32 1#32 2#32 s0 s1 s2 s3) rotates_S8x128_d1)
      shapeCasts_S8x128_S1x8x128

/-- The strided stores of the scale words stay inside their scratch. -/
theorem inbSp (h : Fin 2) (k : Fin 5) (c : Fin 4) : ∀ a, S1x8x128.size a = 0 ∨
    (![h.val, 32 * k.val + c.val, 0] : Fin 3 → Nat) a + (![1, 4, 1] : Fin 3 → Nat) a * (S1x8x128.size a - 1) <
      S2x160x128.size a := by revert h k c; decide

/-- The rows of the scale scratch that one store of scale words fills. -/
def spRect (h : Fin 2) (k : Fin 5) (c : Fin 4) : Rect S2x160x128 :=
  { off := ![h.val, 32 * k.val + c.val, 0], size := S1x8x128.size, stride := ![1, 4, 1], inb := inbSp h k c,
    stride_pos := spos_1_4_1 }

/-- One store of scale words, from the scale bytes as loaded per half, block of 32 rows and quarter. -/
def spPiece (V : Fin 2 → Fin 5 → Fin 4 → IVec S32x128 8) (h : Fin 2) (k : Fin 5) (c : Fin 4) :
    View.Piece (Elt Ideal) S2x160x128 .i32 :=
  ⟨spRect h k c, spVal c (src 0#32 (V h k 0)) (src 1#32 (V h k 1)) (src 2#32 (V h k 2)) (src 3#32 (V h k 3))⟩

/-- All the stores of scale words, the last first. -/
def spPieces (V : Fin 2 → Fin 5 → Fin 4 → IVec S32x128 8) : List (View.Piece (Elt Ideal) S2x160x128 .i32) :=
  [1, 0].flatMap fun h => [4, 3, 2, 1, 0].flatMap fun k => [3, 2, 1, 0].map fun c => spPiece V h k c

/-! ## One column block of 256 -/

/-- The weight bytes of 128 packed columns as words, one column per row. -/
def wordsOf (w0 w1 : IVec S512x128 8) : IVec S128x256 32 :=
  concatenate S128x256 1
    [⟨S128x128, transpose S128x128 [1, 0] (bitcast S128x128 32 w0 bitcasts_S512x128_w8_S128x128_w32) transposes_S128x128_p1_0_S128x128⟩,
     ⟨S128x128, transpose S128x128 [1, 0] (bitcast S128x128 32 w1 bitcasts_S512x128_w8_S128x128_w32) transposes_S128x128_p1_0_S128x128⟩]
    concatenates_S128x128_S128x128_S128x256_d1

/-- The scale words of the block. -/
def swOf (s0 s1 : IVec S1x8x128 32) : IVec S8x256 32 :=
  concatenate S8x256 1
    [⟨S8x128, shapeCast S8x128 s0 shapeCasts_S1x8x128_S8x128⟩, ⟨S8x128, shapeCast S8x128 s1 shapeCasts_S1x8x128_S8x128⟩]
    concatenates_S8x128_S8x128_S8x256_d1

/-- The word rows of a group, first half. -/
theorem slicesRows (g : Fin 4) : S128x256.Slices ![16 * g.val, 0] S16x256 := by revert g; decide

/-- The word rows of a group, second half. -/
theorem slicesRows' (g : Fin 4) : S128x256.Slices ![16 * g.val + 64, 0] S16x256 := by revert g; decide

/-- The eight rows of one of the argument's rows. -/
theorem slicesPart (b : Fin 4) : S32x256.Slices ![8 * b.val, 0] S8x256 := by revert b; decide

/-- The rows of words of group `g` in each half of the block, each row eight times. -/
def rowsOf (g : Fin 4) (v : IVec S128x256 32) : IVec S256x256 32 :=
  shapeCast S256x256
    (broadcastTo S32x8x256
      (shapeCast S32x1x256
        (shapeCast S32x1x256
          (concatenate S32x256 0
            [⟨S16x256, extractStridedSlice S16x256 ![16 * g.val, 0] v (slicesRows g)⟩,
             ⟨S16x256, extractStridedSlice S16x256 ![16 * g.val + 64, 0] v (slicesRows' g)⟩]
            concatenates_S16x256_S16x256_S32x256_d0)
          shapeCasts_S32x256_S32x1x256) shapeCasts_S32x1x256_S32x1x256)
      broadcasts_S32x1x256_S32x8x256) shapeCasts_S32x8x256_S256x256

/-- Each word shifted down to the four bits of its row. -/
def codeOf (rows : IVec S256x256 32) : IVec S256x256 32 :=
  shrsi rows
    (shli (andi (iota .tc S256x256 32 [0] iota_S256x256_d0_w32) (broadcast S256x256 7#32)) (broadcast S256x256 2#32))

/-- The magnitude of a four-bit code, doubled: a table of four-bit entries in one word. -/
def twiceOf (code : IVec S256x256 32) : IVec S256x256 32 :=
  andi (shrui (broadcast S256x256 3362009616#32) (shli (andi code (broadcast S256x256 7#32)) (broadcast S256x256 2#32)))
    (broadcast S256x256 15#32)

/-- The number a four-bit code stands for. -/
def numOf (code : IVec S256x256 32) : FVec Ideal S256x256 .f32 :=
  mulf (sitofp .f32
      (select (cmpi .ne (andi code (broadcast S256x256 8#32)) (broadcast S256x256 0#32))
        (subi (broadcast S256x256 0#32) (twiceOf code)) (twiceOf code)))
    (broadcast S256x256 (Scalar.ofBits .f32 0x3F000000#32))

/-- The products of group `g` with the left factor, before scaling. -/
def partOf (g : Fin 4) (v : IVec S128x256 32) (lhs : FVec Ideal S1x32x256 .bf16) : FVec Ideal S32x256 .f32 :=
  matmul dot_S32x256_S256x256_S32x256_1_0_0_1_n_n none (shapeCast S32x256 lhs shapeCasts_S1x32x256_S32x256)
    (truncf .fp8e4m3 (numOf (codeOf (rowsOf g v))) bitsLt_fp8e4m3_f32) (constant S32x256 .f32 0x00000000#32)

/-- The bits of a scale: byte `g` of each word moved to the exponent field. -/
def scaleBits (g : Fin 4) (sw : IVec S8x256 32) : IVec S8x256 32 :=
  match g with
  | 0 => shli sw (broadcast S8x256 23#32)
  | 1 => shli sw (broadcast S8x256 15#32)
  | 2 => shli sw (broadcast S8x256 7#32)
  | 3 => shrsi sw (broadcast S8x256 1#32)

/-- The scales of group `g`. -/
def scalesOf (g : Fin 4) (sw : IVec S8x256 32) : FVec Ideal S8x256 .f32 :=
  bitcastToFloat .f32 (andi (scaleBits g sw) (broadcast S8x256 2139095040#32))

/-- One group's contribution to batch row `b`. -/
def step (b g : Fin 4) (v : IVec S128x256 32) (sw : IVec S8x256 32) (lhs : FVec Ideal S1x32x256 .bf16)
    (acc : FVec Ideal S8x256 .f32) : FVec Ideal S8x256 .f32 :=
  addf acc (mulf (extractStridedSlice S8x256 ![8 * b.val, 0] (partOf g v lhs) (slicesPart b)) (scalesOf g sw))

/-! ## The whole block of outputs -/

/-- Batch row `b` accumulated over the first `n` column blocks: `W` the weight bytes per half and block, `S` the scale
    words, `L` the left factor per block and group. -/
def acc (W : Fin 2 → Fin 20 → IVec S512x128 8) (S : Fin 2 → Fin 20 → IVec S1x8x128 32)
    (L : Fin 80 → FVec Ideal S1x32x256 .bf16) (b : Fin 4) : (n : ℕ) → n ≤ 20 → FVec Ideal S8x256 .f32
  | 0, _ => broadcast S8x256 (Scalar.ofBits .f32 0x00000000#32)
  | n + 1, h =>
    have hL (g : Fin 4) : 4 * n + g.val < 80 := by omega
    step b 3 (wordsOf (W 0 ⟨n, h⟩) (W 1 ⟨n, h⟩)) (swOf (S 0 ⟨n, h⟩) (S 1 ⟨n, h⟩)) (L ⟨4 * n + 3, hL 3⟩)
      (step b 2 (wordsOf (W 0 ⟨n, h⟩) (W 1 ⟨n, h⟩)) (swOf (S 0 ⟨n, h⟩) (S 1 ⟨n, h⟩)) (L ⟨4 * n + 2, hL 2⟩)
        (step b 1 (wordsOf (W 0 ⟨n, h⟩) (W 1 ⟨n, h⟩)) (swOf (S 0 ⟨n, h⟩) (S 1 ⟨n, h⟩)) (L ⟨4 * n + 1, hL 1⟩)
          (step b 0 (wordsOf (W 0 ⟨n, h⟩) (W 1 ⟨n, h⟩)) (swOf (S 0 ⟨n, h⟩) (S 1 ⟨n, h⟩)) (L ⟨4 * n, hL 0⟩)
            (acc W S L b n (by omega)))))

/-- Both halves of the columns added: the lower four rows of the accumulator onto the upper ones. -/
def total (a : FVec Ideal S8x256 .f32) : FVec Ideal S8x256 .f32 :=
  addf a (dynamicRotate 0 4#32 none a rotates_S8x256_d0)

/-- One half of the columns. -/
theorem slicesHalf (h : Fin 2) : S8x256.Slices ![0, 128 * h.val] S8x128 := by revert h; decide

/-- One half of the lanes of a batch row's total. -/
def zVal (h : Fin 2) (a : FVec Ideal S8x256 .f32) : FVec Ideal S8x128 .f32 :=
  shapeCast S8x128 (extractStridedSlice S8x128 ![0, 128 * h.val] (total a) (slicesHalf h)) shapeCasts_S8x128_S8x128

/-- The stores of the accumulators stay inside their scratch. -/
theorem inbZ (h : Fin 2) (b : Fin 4) : ∀ a, (![8 * (4 * h.val + b.val), 0] : Fin 2 → Nat) a + S8x128.size a ≤
    S64x128.size a := by revert h b; decide

/-- The rows one total is stored to. -/
def zRect (h : Fin 2) (b : Fin 4) : Rect S64x128 := Rect.unit ![8 * (4 * h.val + b.val), 0] S8x128.size (inbZ h b)

/-- The totals as stored, the last first, from the four accumulators. -/
def zPieces (A : Fin 4 → FVec Ideal S8x256 .f32) : List (View.Piece (Elt Ideal) S64x128 .f32) :=
  [3, 2, 1, 0].flatMap fun b => [1, 0].map fun h => ⟨zRect h b, zVal h (A b)⟩

/-- The outputs of lanes `128 m …` of half `h`, from the totals of the four residues. -/
def outVal (m : BitVec 32) (z0 z1 z2 z3 : FVec Ideal S8x128 .f32) : FVec Ideal S8x128 .f32 :=
  let i := takeIdx (addi (bc m) (floorDiv 4#32 lane))
  select (cmpi .eq (floorMod broadcasts_S8x128_S8x128 4#32 lane) (bc 3#32)) (dynamicGather 1 z3 i)
    (select (cmpi .eq (floorMod broadcasts_S8x128_S8x128 4#32 lane) (bc 2#32)) (dynamicGather 1 z2 i)
      (select (cmpi .eq (floorMod broadcasts_S8x128_S8x128 4#32 lane) (bc 1#32)) (dynamicGather 1 z1 i) (dynamicGather 1 z0 i)))

/-- One half of the rows. -/
theorem slicesOut (h : Fin 2) : S8x128.Slices ![4 * h.val, 0] S4x128 := by revert h; decide

/-- The stores of the result stay inside its block. -/
theorem inbOut (m : Fin 4) (h : Fin 2) : ∀ a, (![0, 512 * h.val + 128 * m.val] : Fin 2 → Nat) a + S4x128.size a ≤
    S4x1024.size a := by revert h m; decide

/-- The rows and lanes one store of outputs fills. -/
def outRect (m : Fin 4) (h : Fin 2) : Rect S4x1024 :=
  Rect.unit ![0, 512 * h.val + 128 * m.val] S4x128.size (inbOut m h)

/-- One store of outputs. -/
def outPiece (z0 z1 z2 z3 : FVec Ideal S8x128 .f32) (m : Fin 4) (h : Fin 2) : View.Piece (Elt Ideal) S4x1024 .bf16 :=
  ⟨outRect m h, extractStridedSlice S4x128 ![4 * h.val, 0]
    (truncf .bf16 (outVal (BitVec.ofNat 32 (32 * m.val)) z0 z1 z2 z3) bitsLt_bf16_f32) (slicesOut h)⟩

/-- All the stores of outputs, the last first. -/
def outPieces (z0 z1 z2 z3 : FVec Ideal S8x128 .f32) : List (View.Piece (Elt Ideal) S4x1024 .bf16) :=
  [3, 2, 1, 0].flatMap fun m => [1, 0].map fun h => outPiece z0 z1 z2 z3 m h

/-! ## The left factor, built once -/

/-- The stores of the argument's columns stay inside their scratch. -/
theorem inbXs (u : Fin 40) : ∀ a, (![4 * u.val, 0] : Fin 2 → Nat) a + S4x128.size a ≤ S160x128.size a := by
  revert u; decide

/-- The four batch rows of 128 columns of the argument, one below the other. -/
def xsPiece (X : Fin 40 → FVec Ideal S4x128 .bf16) (u : Fin 40) : View.Piece (Elt Ideal) S160x128 .f32 :=
  ⟨Rect.unit ![4 * u.val, 0] S4x128.size (inbXs u),
    shapeCast S4x128 (extf .f32 (shapeCast S4x128 (X u) shapeCasts_S4x128_S4x128) bitsLt_bf16_f32) shapeCasts_S4x128_S4x128⟩

/-- All of them, the last first. -/
def xsPieces (X : Fin 40 → FVec Ideal S4x128 .bf16) : List (View.Piece (Elt Ideal) S160x128 .f32) :=
  (List.finRange 40).reverse.map (xsPiece X)

/-- The column each of the 512 lanes reads. -/
def srcCol : IVec S128x512 32 :=
  addi (muli (broadcast S128x512 2#32) (floorDiv 8#32 (iota .tc S128x512 32 [1] iota_S128x512_d1_w32)))
    (floorMod broadcasts_S128x512_S128x512 2#32 (iota .tc S128x512 32 [1] iota_S128x512_d1_w32))

/-- The columns repeated four times, by a product with a matrix of zeros and ones. -/
def xeVal (xs : FVec Ideal S160x128 .f32) : FVec Ideal S160x512 .f32 :=
  shapeCast S160x512
    (matmul dot_S160x128_S128x512_S160x512_1_0_0_1_n_n none (truncf .bf16 xs bitsLt_bf16_f32)
      (truncf .bf16
        (select (cmpi .eq (iota .tc S128x512 32 [0] iota_S128x512_d0_w32) srcCol)
          (broadcast S128x512 (Scalar.ofBits .f32 0x3F800000#32)) (broadcast S128x512 (Scalar.ofBits .f32 0x00000000#32)))
        bitsLt_bf16_f32)
      (constant S160x512 .f32 0x00000000#32))
    shapeCasts_S160x512_S160x512

/-- The row number at each entry. -/
def rowNo : IVec S8x128 32 := iota .tc S8x128 32 [0] iota_S8x128_d0_w32

/-- The lanes a row keeps in half `j` of the columns: those of its own byte, for the rows of that half. -/
def keep (j : BitVec 32) : IVec S8x128 1 :=
  andi (cmpi .eq (floorMod broadcasts_S8x128_S8x128 4#32 rowNo)
      (floorMod broadcasts_S8x128_S8x128 4#32 (floorDiv 2#32 lane)))
    (cmpi .eq (floorDiv 4#32 rowNo) (bc j))

/-- One row of the repeated columns. -/
theorem slicesXe (r : Fin 8) (g : Fin 4) : S8x512.Slices ![r.val, 128 * g.val] S1x128 := by revert r g; decide

/-- The rows of one batch row. -/
def lhsRows (g : Fin 4) (j : BitVec 32) (r : Fin 8) (v : FVec Ideal S8x512 .f32) : FVec Ideal S8x128 .f32 :=
  select (keep j)
    (broadcastTo S8x128
      (shapeCast S1x128 (extractStridedSlice S1x128 ![r.val, 128 * g.val] v (slicesXe r g)) shapeCasts_S1x128_S1x128)
      broadcasts_S1x128_S8x128)
    (broadcast S8x128 (Scalar.ofBits .f32 0x00000000#32))

/-- Half `j` of the left factor of one group, from the eight repeated rows of its column block. -/
def lhsVal (g : Fin 4) (j : Fin 2) (v : FVec Ideal S8x512 .f32) : FVec Ideal S1x32x128 .bf16 :=
  have hr (b : Fin 4) : 4 * j.val + b.val < 8 := by omega
  shapeCast S1x32x128
    (truncf .bf16
      (concatenate S32x128 0
        [⟨S8x128, lhsRows g (BitVec.ofNat 32 j.val) ⟨4 * j.val, hr 0⟩ v⟩,
         ⟨S8x128, lhsRows g (BitVec.ofNat 32 j.val) ⟨4 * j.val + 1, hr 1⟩ v⟩,
         ⟨S8x128, lhsRows g (BitVec.ofNat 32 j.val) ⟨4 * j.val + 2, hr 2⟩ v⟩,
         ⟨S8x128, lhsRows g (BitVec.ofNat 32 j.val) ⟨4 * j.val + 3, hr 3⟩ v⟩]
        concatenates_S8x128_S8x128_S8x128_S8x128_S32x128_d0)
      bitsLt_bf16_f32)
    shapeCasts_S32x128_S1x32x128

end Cert.Model
-- ==== Proof.Tile.lean ====
module

public import proofs.«01_k».proof.Proof.Model
public import proofs.«01_k».proof.Proof.Spec
public import Idealize.ShloMosaic.Lib.Pointwise
public import Idealize.ShloMosaic.Lib.Pipeline.Value
public import Idealize.ShloMosaic.Lib.BitcastFour

@[expose] public section

/-! One group's contribution, read at an output. -/

noncomputable section

namespace Cert.Model

open Idealize.ShloMosaic Cert.KernelIdeal Cert.KernelIdeal.Gen Cert.Spec

/-- Row `k` of a group's words: row `16 g + (k mod 128) / 8` of the half `k / 128` of the block. -/
theorem rowsOf_apply (g : Fin 4) (v : IVec S128x256 32) (k L : Fin 256) :
    rowsOf g v (ix2 k L) = v (ix2 ⟨64 * (k.val / 128) + 16 * g.val + k.val % 128 / 8, by omega⟩ L) := by
  unfold rowsOf
  pointwise
  split <;> congr 2 <;> ext <;> simp <;> omega

/-- The shift amount of a row. -/
theorem shift_eq (k : Fin 256) :
    IntOp.shli .vector (IntOp.andi (BitVec.ofNat 32 k.val) 7#32) 2#32 = BitVec.ofNat 32 (4 * (k.val % 8)) := by
  revert k; decide +kernel

/-- The code at a row of the expanded words: nibble `k % 8` comes to the low bits. -/
theorem codeOf_apply (rows : IVec S256x256 32) (k L : Fin 256) :
    codeOf rows (ix2 k L) = (rows (ix2 k L)).sshiftRight (4 * (k.val % 8)) := by
  unfold codeOf
  pointwise
  rw [shift_eq]
  have h : (BitVec.ofNat 32 (4 * (k.val % 8))).toNat = 4 * (k.val % 8) := by
    rw [BitVec.toNat_ofNat]; omega
  rw [IntOp.shrsi, if_pos (by rw [h]; omega), BitVec.sshiftRight', h]

/-- The bits of 7. -/
theorem mask7 : ∀ i : Fin 32, (7#32)[i.val] = decide (i.val < 3) := by decide

/-- The bits of 8. -/
theorem mask8 : ∀ i : Fin 32, (8#32)[i.val] = decide (i.val = 3) := by decide

/-- The bits of the exponent mask. -/
theorem maskE : ∀ i : Fin 32, (2139095040#32)[i.val] = decide (23 ≤ i.val ∧ i.val < 31) := by decide

/-- The low bits of a word do not see its high bits. -/
theorem and7_eq (x : BitVec 32) : x &&& 7#32 = (x.extractLsb' 0 4).setWidth 32 &&& 7#32 := by
  ext i hi
  simp only [BitVec.getElem_and, BitVec.getElem_setWidth, BitVec.getLsbD_extractLsb']
  have h7 : ∀ i : Fin 32, (7#32)[i.val] = decide (i.val < 3) := mask7
  rw [h7 ⟨i, hi⟩]
  by_cases h : i < 3
  · simp [h, show i < 4 by omega, BitVec.getLsbD_eq_getElem hi]
  · simp [h]

/-- The sign bit depends on the low four bits alone. -/
theorem and8_eq (x : BitVec 32) : x &&& 8#32 = (x.extractLsb' 0 4).setWidth 32 &&& 8#32 := by
  ext i hi
  simp only [BitVec.getElem_and, BitVec.getElem_setWidth, BitVec.getLsbD_extractLsb']
  have h7 : ∀ i : Fin 32, (8#32)[i.val] = decide (i.val = 3) := mask8
  rw [h7 ⟨i, hi⟩]
  by_cases h : i = 3
  · subst h; simp [BitVec.getLsbD_eq_getElem hi]
  · simp [h]

/-- The signed doubled magnitude of a four-bit code. -/
def signed (c : BitVec 4) : BitVec 32 :=
  Scalar.select (IntOp.cmpi CmpIPredicate.ne (IntOp.andi (c.setWidth 32) 8#32) 0#32)
    (IntOp.subi 0#32 (IntOp.andi (IntOp.shrui .vector 3362009616#32
      (IntOp.shli .vector (IntOp.andi (c.setWidth 32) 7#32) 2#32)) 15#32))
    (IntOp.andi (IntOp.shrui .vector 3362009616#32
      (IntOp.shli .vector (IntOp.andi (c.setWidth 32) 7#32) 2#32)) 15#32)

/-- The signed doubled magnitude of a code, as an integer. -/
theorem signed_toInt (c : BitVec 4) :
    (signed c).toInt = if c.toNat < 8 then (twice c.toNat : ℤ) else -(twice (c.toNat - 8) : ℤ) := by
  revert c; decide +kernel

/-- The pattern of one half. -/
theorem half_eq : Ideal.ofBits FTy.f32 1056964608#32 = ((1 / 2 : ℝ) : EReal) := by
  simp [Ideal.ofBits, Ideal.ieee, -EReal.coe_mul]; norm_num

/-- The number of a code word, at an index. -/
theorem numOf_apply (code : IVec S256x256 32) (k L : Fin 256) :
    numOf code (ix2 k L) = e2m1 ((code (ix2 k L)).extractLsb' 0 4) := by
  unfold numOf twiceOf
  pointwise
  have h : ∀ x : BitVec 32, Scalar.select (IntOp.cmpi CmpIPredicate.ne (IntOp.andi x 8#32) 0#32)
    (IntOp.subi 0#32 (IntOp.andi (IntOp.shrui .vector 3362009616#32
      (IntOp.shli .vector (IntOp.andi x 7#32) 2#32)) 15#32))
    (IntOp.andi (IntOp.shrui .vector 3362009616#32
      (IntOp.shli .vector (IntOp.andi x 7#32) 2#32)) 15#32) = signed (x.extractLsb' 0 4) := by
    intro x
    unfold signed
    simp only [IntOp.andi]
    rw [and7_eq x, and8_eq x]
  rw [h, half_eq]
  generalize (code (ix2 k L)).extractLsb' 0 4 = c
  have h2 : FloatOps.sitofp (F := Ideal) FTy.f32 (signed c) = (((signed c).toInt : ℝ) : EReal) := rfl
  rw [h2, signed_toInt, e2m1, ← EReal.coe_mul]
  congr 1
  split <;> push_cast <;> ring

/-- The number at a row of the expanded words is the one its nibble stands for. -/
theorem numOf_codeOf (rows : IVec S256x256 32) (k L : Fin 256) :
    numOf (codeOf rows) (ix2 k L) = e2m1 ((rows (ix2 k L)).extractLsb' (4 * (k.val % 8)) 4) := by
  rw [numOf_apply, codeOf_apply]
  congr 1
  ext i hi
  simp only [BitVec.getElem_extractLsb']
  rw [BitVec.getLsbD_sshiftRight, if_pos (by omega)]
  simp [show 4 * (k.val % 8) + i < 32 by omega]
  intro; omega

/-- The library's two spellings of a rank-2 index are the same index. -/
theorem ix2_same {m n : Nat} (a : Fin m) (b : Fin n) : ValueIdx.ix2 a b = ix2 a b := by
  funext d; match d with | ⟨0, _⟩ => rfl | ⟨1, _⟩ => rfl

/-- Byte `c` of word `(R, p)` is row `4 R + c` of column `p`. -/
theorem word_bits (w : IVec S512x128 8) (p R : Fin 128) (q : ℕ) (hq : q < 32) :
    (bitcast S128x128 32 w bitcasts_S512x128_w8_S128x128_w32 (ix2 R p)).getLsbD q =
      (w (ix2 ⟨4 * R.val + q / 8, by omega⟩ p)).getLsbD (q % 8) := by
  have h := bitcast_8_32_getLsbD_ix2 w bitcasts_S512x128_w8_S128x128_w32 R p q hq ⟨4 * R.val + q / 8, by omega⟩ rfl
  rwa [ix2_same, ix2_same] at h

/-- The two codes of byte `c` of a word of the block. -/
theorem wordsOf_nib (W : Fin 2 → IVec S512x128 8) (p : Fin 128) (h : Fin 2) (R : Fin 128) (c : Fin 4) (par : Fin 2) :
    (wordsOf (W 0) (W 1) (ix2 p ⟨128 * h.val + R.val, by omega⟩)).extractLsb' (4 * (2 * c.val + par.val)) 4 =
      nib par.val (W h (ix2 ⟨4 * R.val + c.val, by omega⟩ p)) := by
  have hb : ∀ w : IVec S512x128 8,
      (bitcast S128x128 32 w bitcasts_S512x128_w8_S128x128_w32 (ix2 R p)).extractLsb' (4 * (2 * c.val + par.val)) 4 =
      nib par.val (w (ix2 ⟨4 * R.val + c.val, by omega⟩ p)) := by
    intro w
    ext i hi
    simp only [BitVec.getElem_extractLsb', nib]
    rw [word_bits _ _ _ _ (by omega)]
    have e1 : (⟨4 * R.val + (4 * (2 * c.val + par.val) + i) / 8, by omega⟩ : Fin 512) = ⟨4 * R.val + c.val, by omega⟩ := by
      ext; simp only []; omega
    rw [e1, show (4 * (2 * c.val + par.val) + i) % 8 = 4 * par.val + i by omega]
  unfold wordsOf
  pointwise
  match h with
  | 0 => rw [dif_pos (by simp)]; simpa using hb (W 0)
  | 1 => rw [dif_neg (by simp)]; simpa using hb (W 1)

/-- The scale words of both halves side by side, at an index. -/
theorem swOf_apply (S : Fin 2 → IVec S1x8x128 32) (r : Fin 8) (h : Fin 2) (R : Fin 128) :
    swOf (S 0) (S 1) (ix2 r ⟨128 * h.val + R.val, by omega⟩) = S h (ix3 0 r R) := by
  unfold swOf
  pointwise
  match h with
  | 0 => rw [dif_pos (by simp)]; simp
  | 1 => rw [dif_neg (by simp)]; simp

/-- Shifts by a constant amount. -/
theorem shl_eq (x : BitVec 32) (n : ℕ) (hn : n < 32) : IntOp.shli .vector x (BitVec.ofNat 32 n) = x <<< n := by
  have h : (BitVec.ofNat 32 n).toNat = n := by rw [BitVec.toNat_ofNat]; omega
  rw [IntOp.shli, if_pos (by rw [h]; exact hn), BitVec.shiftLeft_eq', h]

/-- An arithmetic shift, by the number shifted. -/
theorem sshr_eq (x : BitVec 32) (n : ℕ) (hn : n < 32) :
    IntOp.shrsi .vector x (BitVec.ofNat 32 n) = x.sshiftRight n := by
  have h : (BitVec.ofNat 32 n).toNat = n := by rw [BitVec.toNat_ofNat]; omega
  rw [IntOp.shrsi, if_pos (by rw [h]; exact hn), BitVec.sshiftRight', h]

/-- The shifted word, bit by bit. -/
theorem shl_bit (x : BitVec 32) (n i : ℕ) (hi : i < 32) (hn : n ≤ i) : (x <<< n)[i] = x.getLsbD (i - n) := by
  rw [BitVec.getElem_shiftLeft]
  simp [show ¬ i < n by omega, BitVec.getLsbD_eq_getElem (show i - n < 32 by omega)]

/-- A bit of an arithmetic shift. -/
theorem sshr_bit (x : BitVec 32) (n i : ℕ) (hi : n + i < 32) : (x.sshiftRight n)[i] = x.getLsbD (n + i) := by
  rw [BitVec.getElem_sshiftRight, dif_pos hi, BitVec.getLsbD_eq_getElem hi]

/-- The bits of the scale are byte `g` of the word, at the exponent field. -/
theorem scaleBits_eq (g : Fin 4) (sw : IVec S8x256 32) (r : Fin 8) (L : Fin 256) :
    IntOp.andi (scaleBits g sw (ix2 r L)) 2139095040#32 =
      ((sw (ix2 r L)).extractLsb' (8 * g.val) 8).setWidth 32 <<< 23 := by
  have h : ∀ i : ℕ, ∀ hi : i < 32, 23 ≤ i → i < 31 →
      (scaleBits g sw (ix2 r L))[i] = (sw (ix2 r L)).getLsbD (8 * g.val + (i - 23)) := by
    intro i hi h1 h2
    match g with
    | 0 =>
      rw [show scaleBits 0 sw (ix2 r L) = sw (ix2 r L) <<< 23 from shl_eq _ 23 (by omega), shl_bit _ _ _ _ (by omega)]
      congr 1; simp
    | 1 =>
      rw [show scaleBits 1 sw (ix2 r L) = sw (ix2 r L) <<< 15 from shl_eq _ 15 (by omega), shl_bit _ _ _ _ (by omega)]
      congr 1; simp; omega
    | 2 =>
      rw [show scaleBits 2 sw (ix2 r L) = sw (ix2 r L) <<< 7 from shl_eq _ 7 (by omega), shl_bit _ _ _ _ (by omega)]
      congr 1; simp; omega
    | 3 =>
      rw [show scaleBits 3 sw (ix2 r L) = (sw (ix2 r L)).sshiftRight 1 from sshr_eq _ 1 (by omega),
        sshr_bit _ _ _ (by omega)]
      congr 1; simp; omega
  ext i hi
  simp only [IntOp.andi, BitVec.getElem_and]
  rw [maskE ⟨i, hi⟩]
  by_cases hh : 23 ≤ i ∧ i < 31
  · rw [h i hi hh.1 hh.2]
    simp [hh, show ¬ i < 23 by omega, show i - 23 < 8 by omega, BitVec.getLsbD_extractLsb']
  · by_cases h3 : i < 23
    · simp [h3, show ¬ 23 ≤ i by omega]
    · simp [h3, show ¬ i < 31 by omega, show ¬ i - 23 < 8 by omega, BitVec.getLsbD_extractLsb']

/-- The float with a byte in its exponent field is the scale the byte stands for. -/
theorem ofBits_scale (e : BitVec 8) (h2 : e.toNat ≤ 254) :
    Ideal.ofBits FTy.f32 (e.setWidth 32 <<< 23) = scaleOf e := by
  have a1 : ((e.setWidth 32 <<< 23).extractLsb' 23 8) = e := by
    ext i hi
    simp [BitVec.getElem_extractLsb', show 23 + i < 32 by omega, BitVec.getLsbD_eq_getElem hi]
  have a2 : ((e.setWidth 32 <<< 23).extractLsb' 0 23) = 0#23 := by
    ext i hi
    simp [BitVec.getElem_extractLsb']; omega
  have a3 : ((e.setWidth 32 <<< 23).extractLsb' 31 1) = 0#1 := by
    ext i hi
    simp [BitVec.getElem_extractLsb']
    exact fun _ _ _ => BitVec.getLsbD_of_ge _ _ (by omega)
  by_cases h0 : e.toNat = 0
  · obtain rfl : e = 0#8 := BitVec.eq_of_toNat_eq h0
    rw [scaleOf, if_pos h0]
    exact Ideal.ofBits_zero_f32
  show Ideal.ieee 8 23 (e.setWidth 32 <<< 23) = _
  simp only [Ideal.ieee, a1, a2, a3]
  rw [if_neg (by omega), if_neg (by omega), scaleOf, if_neg h0]
  congr 1
  norm_num
  rw [show (8388608 : ℝ) = 2 ^ (23 : ℤ) by norm_num, ← zpow_add₀ (by norm_num)]
  congr 1
  ring

/-- The scales at an index: those the group's byte stands for. -/
theorem scalesOf_apply (g : Fin 4) (sw : IVec S8x256 32) (r : Fin 8) (L : Fin 256)
    (h2 : ((sw (ix2 r L)).extractLsb' (8 * g.val) 8).toNat ≤ 254) :
    scalesOf g sw (ix2 r L) = scaleOf ((sw (ix2 r L)).extractLsb' (8 * g.val) 8) := by
  rw [← ofBits_scale _ h2, ← scaleBits_eq]
  rfl

/-- The columns of a row's own byte and half. -/
def col (j : Fin 2) (c : Fin 4) (q : Fin 16 × Fin 2) : Fin 256 :=
  ⟨128 * j.val + 8 * q.1.val + 2 * c.val + q.2.val, by omega⟩

/-- Different bytes and nibbles have different columns. -/
theorem col_injective (j : Fin 2) (c : Fin 4) : Function.Injective (col j c) := by
  rintro ⟨a, b⟩ ⟨a', b'⟩ h
  have h := congrArg Fin.val h
  simp only [col] at h
  ext <;> simp <;> omega

/-- Row `4 j + c` of an accumulator. -/
abbrev row8 (j : Fin 2) (c : Fin 4) : Fin 8 := ⟨4 * j.val + c.val, by omega⟩

/-- Lane `128 h + R` of an accumulator. -/
abbrev lane256 (h : Fin 2) (R : Fin 128) : Fin 256 := ⟨128 * h.val + R.val, by omega⟩

/-- One group's contribution at an output: the terms of its own byte and half of the columns, times its scale. -/
theorem step_apply (b g : Fin 4) (W : Fin 2 → IVec S512x128 8) (S : Fin 2 → IVec S1x8x128 32)
    (lhs : FVec Ideal S1x32x256 .bf16) (acc : FVec Ideal S8x256 .f32) (j : Fin 2) (c : Fin 4) (h : Fin 2) (R : Fin 128)
    (hl : ∀ k : Fin 256, ¬ (k.val / 128 = j.val ∧ k.val / 2 % 4 = c.val) →
      lhs (ix3 0 ⟨8 * b.val + (row8 j c).val, by omega⟩ k) = 0)
    (h2 : ((S h (ix3 0 (row8 j c) R)).extractLsb' (8 * g.val) 8).toNat ≤ 254) :
    step b g (wordsOf (W 0) (W 1)) (swOf (S 0) (S 1)) lhs acc (ix2 (row8 j c) (lane256 h R)) =
      acc (ix2 (row8 j c) (lane256 h R)) +
        (∑ q : Fin 16 × Fin 2, lhs (ix3 0 ⟨8 * b.val + (row8 j c).val, by omega⟩ (col j c q)) *
          e2m1 (nib q.2.val (W h (ix2 ⟨4 * R.val + c.val, by omega⟩ ⟨64 * j.val + 16 * g.val + q.1.val, by omega⟩)))) *
        scaleOf ((S h (ix3 0 (row8 j c) R)).extractLsb' (8 * g.val) 8) := by
  unfold step partOf
  pointwise
  rw [scalesOf_apply _ _ _ _ (by rwa [swOf_apply]), swOf_apply]
  congr 2
  symm
  refine Fintype.sum_of_injective (col j c) (col_injective j c) _ _ (fun k hk => ?_) (fun q => ?_)
  · rw [hl k (fun ⟨ha, hb⟩ => hk ⟨(⟨k.val % 128 / 8, by omega⟩, ⟨k.val % 2, by omega⟩), ?_⟩), zero_mul]
    ext; simp only [col]; omega
  · rw [numOf_codeOf, rowsOf_apply, ← wordsOf_nib]
    congr 2
    have e1 : 4 * ((col j c q).val % 8) = 4 * (2 * c.val + q.2.val) := by simp only [col]; omega
    have e2 : (⟨64 * ((col j c q).val / 128) + 16 * g.val + (col j c q).val % 128 / 8, by omega⟩ : Fin 128) =
        ⟨64 * j.val + 16 * g.val + q.1.val, by omega⟩ := by ext; simp only [col]; omega
    rw [e1, e2]

end Cert.Model

end
-- ==== Proof.Index.lean ====
module

public import proofs.«01_k».proof.Proof.Model
public import Idealize.ShloMosaic.Lib.Pointwise

@[expose] public section

/-! The body's index vectors, entry by entry. -/

noncomputable section

namespace Cert.Model

open Idealize.ShloMosaic Cert.KernelIdeal Cert.KernelIdeal.Gen

/-- Division rounded down, on one word. -/
def floorDivS (n x : BitVec 32) : BitVec 32 :=
  Scalar.select (IntOp.andi (IntOp.cmpi .ne (IntOp.subi ((IntOp.cmpi .sgt x 0#32).setWidth 32)
          ((IntOp.cmpi .slt x 0#32).setWidth 32))
        (Scalar.subi (Scalar.extui (Scalar.cmpi .sgt n 0#32)) (Scalar.extui (Scalar.cmpi .slt n 0#32))))
      (IntOp.cmpi .ne (IntOp.remsi .vector x n) 0#32))
    (IntOp.subi (IntOp.divsi .vector x n) 1#32) (IntOp.divsi .vector x n)

/-- Its remainder, on one word. -/
def floorModS (n x : BitVec 32) : BitVec 32 :=
  Scalar.select (IntOp.andi (IntOp.xori (IntOp.cmpi .slt (IntOp.remsi .vector x n) 0#32) (Scalar.cmpi .slt n 0#32))
      (IntOp.cmpi .ne (IntOp.remsi .vector x n) 0#32))
    (IntOp.addi (IntOp.remsi .vector x n) n) (IntOp.remsi .vector x n)

/-- Division of a vector by a constant, at an index. -/
theorem floorDiv_apply {s : Shape} (n : BitVec 32) (v : IVec s 32) (i : s.Idx) :
    floorDiv n v i = floorDivS n (v i) := rfl

/-- Remainder of a vector by a constant, at an index. -/
theorem floorMod_apply {s : Shape} (hs : s.Broadcasts s) (n : BitVec 32) (v : IVec s 32) (i : s.Idx) :
    floorMod hs n v i = floorModS n (v i) := rfl

/-- Lane numbers divided by 2. -/
theorem floorDivS_2 : ∀ l : Fin 128, floorDivS 2#32 (BitVec.ofNat 32 l.val) = BitVec.ofNat 32 (l.val / 2) := by decide +kernel

/-- Lane numbers divided by 4. -/
theorem floorDivS_4 : ∀ l : Fin 128, floorDivS 4#32 (BitVec.ofNat 32 l.val) = BitVec.ofNat 32 (l.val / 4) := by decide +kernel

/-- Lane numbers divided by 32. -/
theorem floorDivS_32 : ∀ l : Fin 128, floorDivS 32#32 (BitVec.ofNat 32 l.val) = BitVec.ofNat 32 (l.val / 32) := by decide +kernel

/-- Column numbers divided by 8. -/
theorem floorDivS_8 : ∀ l : Fin 512, floorDivS 8#32 (BitVec.ofNat 32 l.val) = BitVec.ofNat 32 (l.val / 8) := by decide +kernel

/-- Lane numbers modulo 4. -/
theorem floorModS_4 : ∀ l : Fin 128, floorModS 4#32 (BitVec.ofNat 32 l.val) = BitVec.ofNat 32 (l.val % 4) := by decide +kernel

/-- Lane numbers modulo 32. -/
theorem floorModS_32 : ∀ l : Fin 128, floorModS 32#32 (BitVec.ofNat 32 l.val) = BitVec.ofNat 32 (l.val % 32) := by decide +kernel

/-- Column numbers modulo 2. -/
theorem floorModS_2 : ∀ l : Fin 512, floorModS 2#32 (BitVec.ofNat 32 l.val) = BitVec.ofNat 32 (l.val % 2) := by decide +kernel

/-- The lane number at an index. -/
theorem lane_apply (a : Fin 8) (l : Fin 128) : lane (ix2 a l) = BitVec.ofNat 32 l.val := by
  unfold lane; pointwise

/-- The row number at an index. -/
theorem rowNo_apply (a : Fin 8) (l : Fin 128) : rowNo (ix2 a l) = BitVec.ofNat 32 a.val := by
  unfold rowNo; pointwise

/-- A gather at lane numbers below 128 reads those lanes. -/
theorem takeIdx_apply (v : IVec S8x128 32) (a : Fin 8) (l : Fin 128) (k : Fin 128)
    (h : v (ix2 a l) = BitVec.ofNat 32 k.val) : takeIdx v (ix2 a l) = BitVec.ofNat 32 k.val := by
  unfold takeIdx
  pointwise
  rw [h]
  clear h; revert k; decide +kernel

/-- A gather along the lanes, at an index whose lane index is known. -/
theorem gather_apply {ν : Type} (z : S8x128.Idx → ν) (i : IVec S8x128 32) (a : Fin 8) (l : Fin 128) (k : Fin 128)
    (h : i (ix2 a l) = BitVec.ofNat 32 k.val) : dynamicGather 1 z i (ix2 a l) = z (ix2 a k) := by
  pointwise
  congr 2
  rw [h]
  ext
  simp only [BitVec.toNat_ofNat]
  omega

/-- Comparison with a small constant. -/
theorem cmp_eq : ∀ x y : Fin 8, IntOp.cmpi .eq (BitVec.ofNat 32 x.val) (BitVec.ofNat 32 y.val) = if x = y then 1#1 else 0#1 := by
  decide +kernel

end Cert.Model

end
-- ==== Proof.Block.lean ====
module

public import proofs.«01_k».proof.Proof.Tile
public import proofs.«01_k».proof.Proof.Index

@[expose] public section

/-! One block of outputs: the accumulators, both halves of the columns, and the lanes put in order. -/

noncomputable section

namespace Cert.Model

open Idealize.ShloMosaic Cert.KernelIdeal Cert.KernelIdeal.Gen Cert.Spec

/-- What column group `G` adds to batch row `b` of output `o`: the group's products, times its scale. -/
def term (x : Fin 4 → Fin 5120 → EReal) (w : Fin 1024 → Fin 2560 → BitVec 8) (s : Fin 1024 → Fin 160 → BitVec 8)
    (b : Fin 4) (o : Fin 1024) (G : Fin 160) : EReal :=
  (∑ q : Fin 16 × Fin 2, x b ⟨32 * G.val + 2 * q.1.val + q.2.val, by omega⟩ *
    e2m1 (nib q.2.val (w o ⟨16 * G.val + q.1.val, by omega⟩))) * scaleOf (s o G)

/-- The same for every number, zero past the last group. -/
def termN (x : Fin 4 → Fin 5120 → EReal) (w : Fin 1024 → Fin 2560 → BitVec 8) (s : Fin 1024 → Fin 160 → BitVec 8)
    (b : Fin 4) (o : Fin 1024) (G : ℕ) : EReal :=
  if h : G < 160 then term x w s b o ⟨G, h⟩ else 0

/-- What the operands of a block of outputs hold: `x` the argument row, `w` the weight bytes, `s` the scale bytes. -/
structure Operands (W : Fin 2 → Fin 20 → IVec S512x128 8) (S : Fin 2 → Fin 20 → IVec S1x8x128 32)
    (L : Fin 80 → FVec Ideal S1x32x256 .bf16) (x : Fin 4 → Fin 5120 → EReal) (w : Fin 1024 → Fin 2560 → BitVec 8)
    (s : Fin 1024 → Fin 160 → BitVec 8) : Prop where
  weight : ∀ h q (a : Fin 512) (p : Fin 128),
    W h q (ix2 a p) = w ⟨512 * h.val + a.val, by omega⟩ ⟨128 * q.val + p.val, by omega⟩
  scale : ∀ h q (j : Fin 2) (c : Fin 4) (R : Fin 128) (g : Fin 4),
    (S h q (ix3 0 (row8 j c) R)).extractLsb' (8 * g.val) 8 =
      s ⟨512 * h.val + (4 * R.val + c.val), by omega⟩ ⟨8 * q.val + 4 * j.val + g.val, by omega⟩
  zero : ∀ (q : Fin 20) (g b : Fin 4) (j : Fin 2) (c : Fin 4) (k : Fin 256),
    ¬ (k.val / 128 = j.val ∧ k.val / 2 % 4 = c.val) →
      L ⟨4 * q.val + g.val, by omega⟩ (ix3 0 ⟨8 * b.val + (row8 j c).val, by omega⟩ k) = 0
  entry : ∀ (q : Fin 20) (g b : Fin 4) (j : Fin 2) (c : Fin 4) (p : Fin 16 × Fin 2),
    L ⟨4 * q.val + g.val, by omega⟩ (ix3 0 ⟨8 * b.val + (row8 j c).val, by omega⟩ (col j c p)) =
      x b ⟨256 * q.val + 128 * j.val + 32 * g.val + 2 * p.1.val + p.2.val, by omega⟩
  high : ∀ o G, (s o G).toNat ≤ 254

variable {W : Fin 2 → Fin 20 → IVec S512x128 8} {S : Fin 2 → Fin 20 → IVec S1x8x128 32}
  {L : Fin 80 → FVec Ideal S1x32x256 .bf16} {x : Fin 4 → Fin 5120 → EReal} {w : Fin 1024 → Fin 2560 → BitVec 8}
  {s : Fin 1024 → Fin 160 → BitVec 8}

/-- One step adds one group's term. -/
theorem step_term (H : Operands W S L x w s) (b g : Fin 4) (q : Fin 20) (a : FVec Ideal S8x256 .f32) (j : Fin 2)
    (c : Fin 4) (h : Fin 2) (R : Fin 128) (t : Fin 80) (ht : t.val = 4 * q.val + g.val) :
    step b g (wordsOf (W 0 q) (W 1 q)) (swOf (S 0 q) (S 1 q)) (L t) a (ix2 (row8 j c) (lane256 h R)) =
      a (ix2 (row8 j c) (lane256 h R)) +
        termN x w s b ⟨512 * h.val + (4 * R.val + c.val), by omega⟩ (8 * q.val + 4 * j.val + g.val) := by
  rw [show t = ⟨4 * q.val + g.val, by omega⟩ from Fin.ext ht]
  rw [step_apply b g (fun h => W h q) (fun h => S h q) _ a j c h R (H.zero q g b j c)
    (by rw [H.scale]; exact H.high _ _)]
  rw [termN, dif_pos (by omega), term, H.scale]
  congr 2
  refine Finset.sum_congr rfl fun p _ => ?_
  rw [H.entry, H.weight]
  have e1 : (⟨256 * q.val + 128 * j.val + 32 * g.val + 2 * p.1.val + p.2.val, by omega⟩ : Fin 5120) =
      ⟨32 * (8 * q.val + 4 * j.val + g.val) + 2 * p.1.val + p.2.val, by omega⟩ := by ext; simp only []; omega
  have e2 : (⟨128 * q.val + (64 * j.val + 16 * g.val + p.1.val), by omega⟩ : Fin 2560) =
      ⟨16 * (8 * q.val + 4 * j.val + g.val) + p.1.val, by omega⟩ := by ext; simp only []; omega
  simp only [] at *
  rw [e1, e2]

/-- The accumulator after `n` column blocks. -/
theorem acc_apply (H : Operands W S L x w s) (b : Fin 4) (j : Fin 2) (c : Fin 4) (h : Fin 2) (R : Fin 128) :
    ∀ (n : ℕ) (hn : n ≤ 20), acc W S L b n hn (ix2 (row8 j c) (lane256 h R)) =
      ∑ q ∈ Finset.range n, ∑ g : Fin 4,
        termN x w s b ⟨512 * h.val + (4 * R.val + c.val), by omega⟩ (8 * q + 4 * j.val + g.val)
  | 0, _ => by
    simp only [acc, Finset.range_zero, Finset.sum_empty]
    show Ideal.ofBits FTy.f32 0x00000000#32 = 0
    simp [Ideal.ofBits, Ideal.ieee]
  | n + 1, hn => by
    rw [Finset.sum_range_succ, ← acc_apply H b j c h R n (by omega), Fin.sum_univ_four]
    simp only [acc]
    rw [step_term H b 3 ⟨n, hn⟩ _ j c h R _ rfl, step_term H b 2 ⟨n, hn⟩ _ j c h R _ rfl,
      step_term H b 1 ⟨n, hn⟩ _ j c h R _ rfl, step_term H b 0 ⟨n, hn⟩ _ j c h R _ rfl]
    simp only [add_assoc]

/-- Adding both halves of the columns. -/
theorem total_apply (a : FVec Ideal S8x256 .f32) (c : Fin 4) (l : Fin 256) :
    total a (ix2 ⟨c.val, by omega⟩ l) = a (ix2 (row8 0 c) l) + a (ix2 (row8 1 c) l) := by
  unfold total
  pointwise
  match c with
  | 0 => rfl
  | 1 => rfl
  | 2 => rfl
  | 3 => rfl

/-- Eight groups per column block. -/
theorem sum_groups (f : ℕ → EReal) : ∀ n : ℕ,
    (∑ q ∈ Finset.range n, ∑ g : Fin 4, f (8 * q + 4 * 0 + g.val)) +
      (∑ q ∈ Finset.range n, ∑ g : Fin 4, f (8 * q + 4 * 1 + g.val)) = ∑ G ∈ Finset.range (8 * n), f G
  | 0 => by simp
  | n + 1 => by
    rw [Finset.sum_range_succ, Finset.sum_range_succ, add_add_add_comm, sum_groups f n,
      show 8 * (n + 1) = 8 * n + 1 + 1 + 1 + 1 + 1 + 1 + 1 + 1 by ring]
    simp only [Finset.sum_range_succ, Fin.sum_univ_four]
    simp [add_assoc]

/-- An output of the block. -/
theorem total_acc (H : Operands W S L x w s) (b c : Fin 4) (h : Fin 2) (R : Fin 128) :
    total (acc W S L b 20 (le_refl _)) (ix2 ⟨c.val, by omega⟩ (lane256 h R)) =
      ∑ G : Fin 160, term x w s b ⟨512 * h.val + (4 * R.val + c.val), by omega⟩ G := by
  rw [total_apply, acc_apply H, acc_apply H]
  refine (sum_groups _ 20).trans ?_
  rw [Finset.sum_range]
  exact Finset.sum_congr rfl fun G _ => dif_pos G.isLt

/-- One half of the columns of an accumulator, as the body stores it. -/
theorem zVal_apply (h : Fin 2) (a : FVec Ideal S8x256 .f32) (r : Fin 8) (R : Fin 128) :
    zVal h a (ix2 r R) = total a (ix2 r (lane256 h R)) := by
  unfold zVal
  pointwise

/-- What a lane of the outputs takes: the total of its residue, from the lane a quarter as far. -/
theorem outVal_apply (m : Fin 4) (z : Fin 4 → FVec Ideal S8x128 .f32) (a : Fin 8) (l : Fin 128) :
    outVal (BitVec.ofNat 32 (32 * m.val)) (z 0) (z 1) (z 2) (z 3) (ix2 a l) =
      z ⟨l.val % 4, by omega⟩ (ix2 a ⟨32 * m.val + l.val / 4, by omega⟩) := by
  have hi : takeIdx (addi (bc (BitVec.ofNat 32 (32 * m.val))) (floorDiv 4#32 lane)) (ix2 a l) =
      BitVec.ofNat 32 (32 * m.val + l.val / 4) := by
    refine takeIdx_apply _ a l ⟨32 * m.val + l.val / 4, by omega⟩ ?_
    show IntOp.addi (BitVec.ofNat 32 (32 * m.val)) (floorDivS 4#32 (lane (ix2 a l))) = _
    rw [lane_apply, floorDivS_4]
    exact (BitVec.ofNat_add ..).symm
  have hz (c : Fin 4) := gather_apply (z c) _ a l ⟨32 * m.val + l.val / 4, by omega⟩ hi
  have hm : floorMod broadcasts_S8x128_S8x128 4#32 lane (ix2 a l) = BitVec.ofNat 32 (l.val % 4) := by
    rw [floorMod_apply, lane_apply, floorModS_4]
  have hc (k : Fin 8) : cmpi .eq (floorMod broadcasts_S8x128_S8x128 4#32 lane) (bc (BitVec.ofNat 32 k.val)) (ix2 a l) =
      if (⟨l.val % 4, by omega⟩ : Fin 8) = k then 1#1 else 0#1 := by
    rw [← cmp_eq, ← hm]; rfl
  unfold outVal
  show Scalar.select _ _ (Scalar.select _ _ (Scalar.select _ _ _)) = _
  rw [hz 0, hz 1, hz 2, hz 3]
  rw [show cmpi .eq (floorMod broadcasts_S8x128_S8x128 4#32 lane) (bc 3#32) (ix2 a l) = _ from hc 3,
    show cmpi .eq (floorMod broadcasts_S8x128_S8x128 4#32 lane) (bc 2#32) (ix2 a l) = _ from hc 2,
    show cmpi .eq (floorMod broadcasts_S8x128_S8x128 4#32 lane) (bc 1#32) (ix2 a l) = _ from hc 1]
  have h4 : l.val % 4 = 0 ∨ l.val % 4 = 1 ∨ l.val % 4 = 2 ∨ l.val % 4 = 3 := by omega
  rcases h4 with e | e | e | e <;> simp [e, Scalar.select, Fin.ext_iff] <;> rfl

/-- Both halves are in the list of the stores. -/
theorem mem_two : ∀ h : Fin 2, h ∈ ([1, 0] : List (Fin 2)) := by decide

/-- All four rows are in the list of the stores. -/
theorem mem_four : ∀ b : Fin 4, b ∈ ([3, 2, 1, 0] : List (Fin 4)) := by decide

/-- Stores that all hold one function's values leave that function where one of them writes. -/
theorem canon_at {sh : Shape} {e : EltTy} (G : sh.Idx → Elt Ideal e) (L : List (View.Piece (Elt Ideal) sh e))
    (h : ∀ p ∈ L, ∀ x, p.2 x = G (p.1.emb x)) (p : View.Piece (Elt Ideal) sh e) (hp : p ∈ L) (x : p.1.shape.Idx)
    (y : sh.Idx) (hy : p.1.emb x = y) : View.canon L y = G y :=
  View.canon_apply_of_pieces G L h y ⟨p, hp, by rw [← hy]; exact p.1.idx_mem x⟩

/-- The totals' scratch. -/
theorem canon_z (A : Fin 4 → FVec Ideal S8x256 .f32) (h : Fin 2) (b : Fin 4) (r : Fin 8) (R : Fin 128) :
    View.canon (zPieces A) (ix2 ⟨8 * (4 * h.val + b.val) + r.val, by omega⟩ R) =
      total (A b) (ix2 r (lane256 h R)) := by
  let G : S64x128.Idx → EReal := fun y =>
    total (A ⟨(y 0).val / 8 % 4, by omega⟩) (ix2 ⟨(y 0).val % 8, by omega⟩
      ⟨128 * ((y 0).val / 32) + (y 1).val, by have := (y 0).isLt; have := (y 1).isLt; simp at *; omega⟩)
  have hG : ∀ (h : Fin 2) (b : Fin 4) (r : Fin 8) (R : Fin 128),
      G (ix2 ⟨8 * (4 * h.val + b.val) + r.val, by omega⟩ R) = total (A b) (ix2 r (lane256 h R)) := by
    intro h b r R
    have e1 : (⟨(8 * (4 * h.val + b.val) + r.val) / 8 % 4, by omega⟩ : Fin 4) = b := by ext; simp only []; omega
    have e2 : (⟨(8 * (4 * h.val + b.val) + r.val) % 8, by omega⟩ : Fin 8) = r := by ext; simp only []; omega
    have e3 : (⟨128 * ((8 * (4 * h.val + b.val) + r.val) / 32) + R.val, by omega⟩ : Fin 256) = lane256 h R := by
      ext; simp only []; omega
    show total (A ⟨(8 * (4 * h.val + b.val) + r.val) / 8 % 4, _⟩) (ix2 ⟨(8 * (4 * h.val + b.val) + r.val) % 8, _⟩
      ⟨128 * ((8 * (4 * h.val + b.val) + r.val) / 32) + R.val, _⟩) = _
    rw [e1, e2, e3]
  have he : ∀ (h : Fin 2) (b : Fin 4) (r : Fin 8) (R : Fin 128), (zRect h b).emb (ix2 r R) =
      ix2 ⟨8 * (4 * h.val + b.val) + r.val, by omega⟩ R := by
    intro h b r R
    funext d
    match d with
    | ⟨0, _⟩ => ext; show 8 * (4 * h.val + b.val) + 1 * r.val = 8 * (4 * h.val + b.val) + r.val; omega
    | ⟨1, _⟩ => ext; show 0 + 1 * R.val = R.val; omega
  rw [← hG]
  refine canon_at G _ ?_ (⟨zRect h b, zVal h (A b)⟩ : View.Piece (Elt Ideal) S64x128 .f32) ?_ (ix2 r R) _ (he h b r R)
  · intro p hp
    simp only [zPieces, List.mem_flatMap, List.mem_map] at hp
    obtain ⟨b, -, h, -, rfl⟩ := hp
    intro x
    rw [eq_ix2 x]
    erw [he h b, hG]
    exact zVal_apply _ _ _ _
  · simp only [zPieces, List.mem_flatMap, List.mem_map]
    exact ⟨b, mem_four b, h, mem_two h, rfl⟩

/-- The outputs' block from the totals of the four residues. -/
theorem canon_out (z : Fin 4 → FVec Ideal S8x128 .f32) (h : Fin 2) (b c : Fin 4) (R : Fin 128) :
    View.canon (outPieces (z 0) (z 1) (z 2) (z 3)) (ix2 b ⟨512 * h.val + (4 * R.val + c.val), by omega⟩) =
      z c (ix2 ⟨4 * h.val + b.val, by omega⟩ R) := by
  let G : S4x1024.Idx → EReal := fun y => z ⟨(y 1).val % 4, by omega⟩
    (ix2 ⟨4 * ((y 1).val / 512) + (y 0).val, by have := (y 0).isLt; have := (y 1).isLt; simp at *; omega⟩
      ⟨(y 1).val % 512 / 4, by omega⟩)
  have hG : ∀ (m : Fin 4) (h : Fin 2) (b : Fin 4) (l : Fin 128),
      G (ix2 b ⟨512 * h.val + 128 * m.val + l.val, by omega⟩) =
        z ⟨l.val % 4, by omega⟩ (ix2 ⟨4 * h.val + b.val, by omega⟩ ⟨32 * m.val + l.val / 4, by omega⟩) := by
    intro m h b l
    have e1 : (⟨(512 * h.val + 128 * m.val + l.val) % 4, by omega⟩ : Fin 4) = ⟨l.val % 4, by omega⟩ := by
      ext; simp only []; omega
    have e2 : (⟨4 * ((512 * h.val + 128 * m.val + l.val) / 512) + b.val, by omega⟩ : Fin 8) =
        ⟨4 * h.val + b.val, by omega⟩ := by ext; simp only []; omega
    have e3 : (⟨(512 * h.val + 128 * m.val + l.val) % 512 / 4, by omega⟩ : Fin 128) =
        ⟨32 * m.val + l.val / 4, by omega⟩ := by ext; simp only []; omega
    show z ⟨(512 * h.val + 128 * m.val + l.val) % 4, _⟩ (ix2 ⟨4 * ((512 * h.val + 128 * m.val + l.val) / 512) + b.val, _⟩
      ⟨(512 * h.val + 128 * m.val + l.val) % 512 / 4, _⟩) = _
    rw [e1, e2, e3]
  have he : ∀ (m : Fin 4) (h : Fin 2) (b : Fin 4) (l : Fin 128), (outRect m h).emb (ix2 b l) =
      ix2 b ⟨512 * h.val + 128 * m.val + l.val, by omega⟩ := by
    intro m h b l
    funext d
    match d with
    | ⟨0, _⟩ => ext; show 0 + 1 * b.val = b.val; omega
    | ⟨1, _⟩ =>
      ext; show 512 * h.val + 128 * m.val + 1 * l.val = 512 * h.val + 128 * m.val + l.val; omega
  have ey : (⟨512 * h.val + (4 * R.val + c.val), by omega⟩ : Fin 1024) = ⟨512 * h.val + 128 * (R.val / 32) +
      (4 * (R.val % 32) + c.val), by omega⟩ := by ext; simp only []; omega
  rw [ey]
  have hr := hG ⟨R.val / 32, by omega⟩ h b ⟨4 * (R.val % 32) + c.val, by omega⟩
  simp only [] at hr
  have e4 : (⟨(4 * (R.val % 32) + c.val) % 4, by omega⟩ : Fin 4) = c := by ext; simp only []; omega
  have e5 : (⟨32 * (R.val / 32) + (4 * (R.val % 32) + c.val) / 4, by omega⟩ : Fin 128) = R := by
    ext; simp only []; omega
  rw [e4, e5] at hr
  rw [← hr]
  refine canon_at G _ ?_ (outPiece (z 0) (z 1) (z 2) (z 3) ⟨R.val / 32, by omega⟩ h) ?_
    (ix2 b ⟨4 * (R.val % 32) + c.val, by omega⟩) _ (he ⟨R.val / 32, by omega⟩ h b ⟨4 * (R.val % 32) + c.val, by omega⟩)
  · intro p hp
    simp only [outPieces, List.mem_flatMap, List.mem_map] at hp
    obtain ⟨m, -, h, -, rfl⟩ := hp
    intro x
    rw [eq_ix2 x]
    erw [he m h, hG]
    refine Eq.trans ?_ (outVal_apply m z _ _)
    unfold outPiece
    pointwise
  · simp only [outPieces, List.mem_flatMap, List.mem_map]
    exact ⟨_, mem_four _, h, mem_two h, rfl⟩

/-- The whole block: outputs from the operands. -/
theorem block_apply (H : Operands W S L x w s) (Z : List (View.Piece (Elt Ideal) S64x128 .f32))
    (hZ : Z = zPieces fun b => acc W S L b 20 (le_refl _)) (z : Fin 4 → FVec Ideal S8x128 .f32)
    (hz : ∀ (c : Fin 4) (a : Fin 8) (R : Fin 128), z c (ix2 a R) = View.canon Z (ix2 ⟨c.val + 8 * a.val, by omega⟩ R))
    (b : Fin 4) (o : Fin 1024) :
    View.canon (outPieces (z 0) (z 1) (z 2) (z 3)) (ix2 b o) = ∑ G : Fin 160, term x w s b o G := by
  have ho : o = ⟨512 * (o.val / 512) + (4 * (o.val % 512 / 4) + o.val % 4), by omega⟩ := by ext; simp only []; omega
  have h1 := canon_out z ⟨o.val / 512, by omega⟩ b ⟨o.val % 4, by omega⟩ ⟨o.val % 512 / 4, by omega⟩
  have h2 := total_acc H b ⟨o.val % 4, by omega⟩ ⟨o.val / 512, by omega⟩ ⟨o.val % 512 / 4, by omega⟩
  have h3 := canon_z (fun b => acc W S L b 20 (le_refl _)) ⟨o.val / 512, by omega⟩ b ⟨o.val % 4, by omega⟩ ⟨o.val % 512 / 4, by omega⟩
  simp only [] at h1 h2 h3
  rw [← ho] at h1 h2
  rw [h1, hz, hZ, ← h2, ← h3]
  congr 2
  ext; simp only []; omega

end Cert.Model

end
-- ==== Proof.Body.lean ====
module

public import proofs.«01_k».proof.Proof.Model
public import proofs.«01_k».proof.Proof.Gen.KernelIdeal.Frame

@[expose] public section

/-! The runs' stores are the model's. -/

set_option maxRecDepth 16384

noncomputable section

namespace Cert.Body

open Idealize.ShloMosaic Idealize.ShloMosaic.TcCoe Cert.KernelIdeal Cert.KernelIdeal.Gen Cert.Model

/-- The scale loads stay inside their window. -/
theorem inbV (h : Fin 2) (k : Fin 5) (m : Fin 4) : ∀ a, (![32 * k.val, 512 * h.val + 128 * m.val] : Fin 2 → Nat) a +
    S32x128.size a ≤ S160x1024.size a := by revert h k m; decide

/-- The scale bytes the body loads, per half, block of 32 rows and quarter. -/
def loadV (arg3 : Memref sig .tc .vmem S160x1024 .i8) (harg3 : arg3.IsWhole) (x2 : Vec Ideal S160x1024 .i8)
    (h : Fin 2) (k : Fin 5) (m : Fin 4) : IVec S32x128 8 :=
  View.readAt (Elt Ideal) arg3.view
    (Rect.unit ![32 * k.val, 512 * h.val + 128 * m.val] S32x128.size (inbV h k m) : Rect S160x1024).toLoadRect
    (harg3.unread x2)

/-- The weight loads stay inside their window. -/
theorem inbW (h : Fin 2) (q : Fin 20) : ∀ a, (![512 * h.val, 128 * q.val] : Fin 2 → Nat) a +
    S512x128.size a ≤ S1024x2560.size a := by revert h q; decide

/-- The weight bytes the body loads, per half and column block. -/
def loadW (arg2 : Memref sig .tc .vmem S1024x2560 .i8) (harg2 : arg2.IsWhole) (x1 : Vec Ideal S1024x2560 .i8)
    (h : Fin 2) (q : Fin 20) : IVec S512x128 8 :=
  View.readAt (Elt Ideal) arg2.view
    (Rect.unit ![512 * h.val, 128 * q.val] S512x128.size (inbW h q) : Rect S1024x2560).toLoadRect (harg2.unread x1)

/-- The loads of the scale words stay inside their scratch. -/
theorem inbS (h : Fin 2) (q : Fin 20) : ∀ a, (![h.val, 8 * q.val, 0] : Fin 3 → Nat) a +
    S1x8x128.size a ≤ S2x160x128.size a := by revert h q; decide

/-- The scale words of half `h` and column block `q`, as they lie in the scale scratch. -/
def rectS (h : Fin 2) (q : Fin 20) : Rect S2x160x128 := Rect.unit ![h.val, 8 * q.val, 0] S1x8x128.size (inbS h q)

/-- The loads of the left factor stay inside its scratch. -/
theorem inbL (t : Fin 80) : ∀ a, (![t.val, 0, 0] : Fin 3 → Nat) a +
    S1x32x256.size a ≤ S80x32x256.size a := by revert t; decide

/-- The left factor of one column block and group, as it lies in its scratch. -/
def rectL (t : Fin 80) : Rect S80x32x256 := Rect.unit ![t.val, 0, 0] S1x32x256.size (inbL t)

/-- The strided loads of the accumulators stay inside their scratch. -/
theorem inbZc (c : Fin 4) : ∀ a, S8x128.size a = 0 ∨
    (![c.val, 0] : Fin 2 → Nat) a + (![8, 1] : Fin 2 → Nat) a * (S8x128.size a - 1) < S64x128.size a := by
  revert c; decide

/-- Every eighth row of the totals, from row `c`. -/
def rectZ (c : Fin 4) : Rect S64x128 :=
  { off := ![c.val, 0], size := S8x128.size, stride := ![8, 1], inb := inbZc c, stride_pos := by decide }

section
variable (c : Dev nD) (arg2 : Memref sig .tc .vmem S1024x2560 .i8) (harg2 : arg2.IsWhole)
    (arg3 : Memref sig .tc .vmem S160x1024 .i8) (harg3 : arg3.IsWhole)
    (arg7 : Memref sig .tc .vmem S80x32x256 .bf16) (harg7 : arg7.IsWhole)
    (arg8 : Memref sig .tc .vmem S2x160x128 .i32) (arg9 : Memref sig .tc .vmem S64x128 .f32)
    (x1 : Vec Ideal S1024x2560 .i8) (x2 : Vec Ideal S160x1024 .i8) (xs2 : Vec Ideal S80x32x256 .bf16)

/-- At a later point the scale scratch is stored as the model says. -/
theorem sp_B : kernelRun0_B.sl.HS3_40 c arg3 harg3 x2 = spPieces (loadV arg3 harg3 x2) := by rfl

set_option maxHeartbeats 4000000 in
/-- At a later point the accumulators are stored as the model says. -/
theorem z_B : kernelRun0_B.sl.HS4_8 c arg2 harg2 arg3 harg3 arg7 harg7 arg8 x1 x2 xs2 =
    zPieces fun b => acc (loadW arg2 harg2 x1)
      (fun h q => arg8.view.readCov (kernelRun0_B.sl.HS3_40 c arg3 harg3 x2) (rectS h q).toLoadRect)
      (fun t => View.readAt (Elt Ideal) arg7.view (rectL t).toLoadRect (harg7.unread xs2)) b 20 (le_refl _) := by rfl

section
variable (i : grid0.Coords) (arg1 : Memref sig .tc .vmem S4x5120 .bf16) (harg1 : arg1.IsWhole)
    (arg4 : Memref sig .tc .vmem S4x1024 .bf16) (harg4 : arg4.IsWhole)
    (arg5 : Memref sig .tc .vmem S160x128 .f32) (harg5 : arg5.IsWhole)
    (arg6 : Memref sig .tc .vmem S160x512 .f32) (harg6 : arg6.IsWhole)
    (harg8 : arg8.IsWhole) (harg9 : arg9.IsWhole) (x0 : Vec Ideal S4x5120 .bf16)

set_option maxHeartbeats 4000000 in
/-- At a later point the result's block is stored from the accumulators' scratch. -/
theorem out_B (hc0 : ¬cond0_0 i) :
    (kernelRun0_B (F := Ideal) c i arg1 harg1 arg2 harg2 arg3 harg3 arg4 harg4 arg5 harg5 arg6 harg6 arg7 harg7 arg8 harg8 arg9 harg9
        hc0 x0 x1 x2 xs2).1 =
      outPieces (arg9.view.readCov (kernelRun0_B.sl.HS4_8 c arg2 harg2 arg3 harg3 arg7 harg7 arg8 x1 x2 xs2) (rectZ 0).toLoadRect)
        (arg9.view.readCov (kernelRun0_B.sl.HS4_8 c arg2 harg2 arg3 harg3 arg7 harg7 arg8 x1 x2 xs2) (rectZ 1).toLoadRect)
        (arg9.view.readCov (kernelRun0_B.sl.HS4_8 c arg2 harg2 arg3 harg3 arg7 harg7 arg8 x1 x2 xs2) (rectZ 2).toLoadRect)
        (arg9.view.readCov (kernelRun0_B.sl.HS4_8 c arg2 harg2 arg3 harg3 arg7 harg7 arg8 x1 x2 xs2) (rectZ 3).toLoadRect) := by
  unfold kernelRun0_B; rfl

/-- The loads of the argument rows stay inside their window. -/
theorem inbX (u : Fin 40) : ∀ a, (![0, 128 * u.val] : Fin 2 → Nat) a + S4x128.size a ≤ S4x5120.size a := by
  revert u; decide

/-- The columns of the argument the body loads, 128 at a time. -/
def loadX (arg1 : Memref sig .tc .vmem S4x5120 .bf16) (harg1 : arg1.IsWhole) (x0 : Vec Ideal S4x5120 .bf16)
    (u : Fin 40) : FVec Ideal S4x128 .bf16 :=
  View.readAt (Elt Ideal) arg1.view (Rect.unit ![0, 128 * u.val] S4x128.size (inbX u) : Rect S4x5120).toLoadRect
    (harg1.unread x0)

/-- The whole of the first scratch. -/
def rectXs : Rect S160x128 := Rect.unit ![0, 0] S160x128.size inb_S160x128_S160x128_0_0

/-- At the first point the columns of the argument are stored as the model says. -/
theorem xs_A : kernelRun0_A.sl.HS0_40 c arg1 harg1 x0 = xsPieces (loadX arg1 harg1 x0) := by rfl

/-- At the first point the repeated columns are stored as the model says. -/
theorem xe_A : kernelRun0_A.sl.HS1_1 c arg1 harg1 arg5 x0 =
    [⟨Rect.unit ![0, 0] S160x512.size inb_S160x512_S160x512_0_0,
      xeVal (arg5.view.readCov (kernelRun0_A.sl.HS0_40 c arg1 harg1 x0) rectXs.toLoadRect)⟩] := by rfl

/-- The eight rows of the repeated columns one round reads. -/
def rectXe (k : Fin k0_t1_loop.trips) (hc0 : cond0_0 i) : Rect S160x512 :=
  Rect.unit (k0_off1 k) S8x512.size (k0_off1_inb i k hc0)

/-- Where a half of the left factor is stored. -/
def lhsOff (k : Fin k0_t1_loop.trips) (g : Fin 4) (j : Fin 2) : Fin 3 → Nat :=
  match j with
  | 0 => k0_off2 k (BitVec.ofNat 32 g.val)
  | 1 => k0_off3 k (BitVec.ofNat 32 g.val)

/-- The stores of the left factor stay inside its scratch, in every round of the loop. -/
theorem lhsOff_inb (k : Fin k0_t1_loop.trips) (hc0 : cond0_0 i) (g : Fin 4) (j : Fin 2) :
    ∀ a, lhsOff k g j a + S1x32x128.size a ≤ S80x32x256.size a :=
  match j with
  | 0 => k0_off2_inb i k hc0 g
  | 1 => k0_off3_inb i k hc0 g

/-- One store of a half of the left factor. -/
def lhsPiece (hc0 : cond0_0 i) (X : BufTy.Contents (Elt Ideal) arg6.view.ty) (k : Fin k0_t1_loop.trips) (g : Fin 4) (j : Fin 2) :
    View.Piece (Elt Ideal) S80x32x256 .bf16 :=
  ⟨Rect.unit (lhsOff k g j) S1x32x128.size (lhsOff_inb i k hc0 g j),
    lhsVal g j (View.readAt (Elt Ideal) arg6.view (rectXe i k hc0).toLoadRect X)⟩

/-- The left factor's stores in one round, the last first. -/
def lhsRound (hc0 : cond0_0 i) (X : BufTy.Contents (Elt Ideal) arg6.view.ty) (k : Fin k0_t1_loop.trips) :
    List (View.Piece (Elt Ideal) S80x32x256 .bf16) :=
  [3, 2, 1, 0].flatMap fun g => [1, 0].map fun j => lhsPiece i arg6 hc0 X k g j

/-- The stores of one round. -/
theorem trip_A (k : Fin k0_t1_loop.trips) (hc0 : cond0_0 i) (X : BufTy.Contents (Elt Ideal) arg6.view.ty) :
    tripL_k0_t1 (F := Ideal) Variants.none c none i arg1 harg1 arg2 harg2 arg3 harg3 arg4 harg4 arg5 harg5 arg6 harg6
      arg7 harg7 arg8 harg8 arg9 harg9 hc0 kernelRun0_A.sl.v7995
      (cmpi CmpIPredicate.eq kernelRun0_A.sl.v8012 kernelRun0_A.sl.v8052) 0#32 1#32 X k =
    lhsRound i arg6 hc0 X k := by
  unfold tripL_k0_t1 trip_k0_t1; rfl

/-- The left factor's stores of all rounds, as the first point's run names them. -/
abbrev lhsAll (hc0 : cond0_0 i) : List (View.Piece (Elt Ideal) S80x32x256 .bf16) :=
  pb_k0_t1 (F := Ideal) Variants.none c none i arg1 harg1 arg2 harg2 arg3 harg3 arg4 harg4 arg5 harg5 arg6 harg6
      arg7 harg7 arg8 harg8 arg9 harg9 hc0 kernelRun0_A.sl.v7995
      (cmpi CmpIPredicate.eq kernelRun0_A.sl.v8012 kernelRun0_A.sl.v8052) 0#32 1#32
      (arg6.view.writes (Elt Ideal) arg6.view.junk (kernelRun0_A.sl.HS1_1 c arg1 harg1 arg5 x0))
      (Scf.trips k0_t1_loop.lb k0_t1_loop.ub k0_t1_loop.st)

/-- At the first point the scale scratch is stored as the model says. -/
theorem sp_A : kernelRun0_A.sl.HS3_40 c arg3 harg3 x2 = spPieces (loadV arg3 harg3 x2) := by rfl

set_option maxHeartbeats 4000000 in
/-- At the first point the accumulators are stored as the model says. -/
theorem z_A (hc0 : cond0_0 i) : kernelRun0_A.sl.HS4_8 c i arg1 harg1 arg2 harg2 arg3 harg3 arg4 harg4 arg5 harg5 arg6 harg6 arg7 harg7 arg8
      harg8 arg9 harg9 hc0 x0 x1 x2 =
    zPieces fun b => acc (loadW arg2 harg2 x1)
      (fun h q => arg8.view.readCov (kernelRun0_A.sl.HS3_40 c arg3 harg3 x2) (rectS h q).toLoadRect)
      (fun t => arg7.view.readCov (lhsAll c arg2 harg2 arg3 harg3 arg7 harg7 arg8 arg9 i arg1 harg1 arg4 harg4 arg5 harg5 arg6 harg6 harg8 harg9 x0 hc0) (rectL t).toLoadRect) b 20 (le_refl _) := by rfl

set_option maxHeartbeats 4000000 in
/-- At the first point the result's block is stored from the accumulators' scratch. -/
theorem out_A (hc0 : cond0_0 i) :
    (kernelRun0_A (F := Ideal) c i arg1 harg1 arg2 harg2 arg3 harg3 arg4 harg4 arg5 harg5 arg6 harg6 arg7 harg7 arg8 harg8 arg9 harg9
        hc0 x0 x1 x2).1 =
      outPieces (arg9.view.readCov (kernelRun0_A.sl.HS4_8 c i arg1 harg1 arg2 harg2 arg3 harg3 arg4 harg4 arg5 harg5 arg6 harg6 arg7 harg7 arg8
      harg8 arg9 harg9 hc0 x0 x1 x2) (rectZ 0).toLoadRect)
        (arg9.view.readCov (kernelRun0_A.sl.HS4_8 c i arg1 harg1 arg2 harg2 arg3 harg3 arg4 harg4 arg5 harg5 arg6 harg6 arg7 harg7 arg8
      harg8 arg9 harg9 hc0 x0 x1 x2) (rectZ 1).toLoadRect)
        (arg9.view.readCov (kernelRun0_A.sl.HS4_8 c i arg1 harg1 arg2 harg2 arg3 harg3 arg4 harg4 arg5 harg5 arg6 harg6 arg7 harg7 arg8
      harg8 arg9 harg9 hc0 x0 x1 x2) (rectZ 2).toLoadRect)
        (arg9.view.readCov (kernelRun0_A.sl.HS4_8 c i arg1 harg1 arg2 harg2 arg3 harg3 arg4 harg4 arg5 harg5 arg6 harg6 arg7 harg7 arg8
      harg8 arg9 harg9 hc0 x0 x1 x2) (rectZ 3).toLoadRect) := by
  unfold kernelRun0_A; rfl

/-- At the first point the left factor's scratch ends with the stores of all the rounds. -/
theorem lhs_A (hc0 : cond0_0 i) :
    (kernelRun0_A (F := Ideal) c i arg1 harg1 arg2 harg2 arg3 harg3 arg4 harg4 arg5 harg5 arg6 harg6 arg7 harg7 arg8 harg8 arg9 harg9
        hc0 x0 x1 x2).2.1 =
      lhsAll c arg2 harg2 arg3 harg3 arg7 harg7 arg8 arg9 i arg1 harg1 arg4 harg4 arg5 harg5 arg6 harg6 harg8 harg9 x0 hc0 := by
  unfold kernelRun0_A; rfl

end
end
end Cert.Body
-- ==== Proof.Lhs.lean ====
module

public import proofs.«01_k».proof.Proof.Block
public import proofs.«01_k».proof.Proof.Body

@[expose] public section

/-! The left factor: the argument's columns laid out per group, and what its scratch holds. -/

noncomputable section

namespace Cert.Model

open Idealize.ShloMosaic Cert.KernelIdeal Cert.KernelIdeal.Gen Cert.Spec

/-- What the left factor's scratch holds, from the argument row: entry `(t, ρ, k)` is the column of group `t` at its own
    byte and half, zero elsewhere. -/
def lhsFn (x : Fin 4 → Fin 5120 → EReal) (y : S80x32x256.Idx) : EReal :=
  if (y 1).val % 4 = (y 2).val / 2 % 4 ∧ (y 1).val % 8 / 4 = (y 2).val / 128 then
    x ⟨(y 1).val / 8, by have := (y 1).isLt; simp at this; omega⟩
      ⟨256 * ((y 0).val / 4) + 128 * ((y 2).val / 128) + 32 * ((y 0).val % 4) + 2 * ((y 2).val % 128 / 8) + (y 2).val % 2, by
        have h0 := (y 0).isLt; have h2 := (y 2).isLt; simp at h0 h2; omega⟩
  else 0

/-- Where one store of the left factor keeps the argument: a row's own byte and half. -/
theorem keep_apply (j : Fin 2) (r : Fin 8) (l : Fin 128) :
    keep (BitVec.ofNat 32 j.val) (ix2 r l) = if r.val % 4 = l.val / 2 % 4 ∧ r.val / 4 = j.val then 1#1 else 0#1 := by
  have h1 : floorMod broadcasts_S8x128_S8x128 4#32 rowNo (ix2 r l) = BitVec.ofNat 32 (r.val % 4) := by
    rw [floorMod_apply, rowNo_apply]; exact floorModS_4 ⟨r.val, by omega⟩
  have h2 : floorMod broadcasts_S8x128_S8x128 4#32 (floorDiv 2#32 lane) (ix2 r l) = BitVec.ofNat 32 (l.val / 2 % 4) := by
    rw [floorMod_apply, floorDiv_apply, lane_apply, floorDivS_2]; exact floorModS_4 ⟨l.val / 2, by omega⟩
  have h3 : floorDiv 4#32 rowNo (ix2 r l) = BitVec.ofNat 32 (r.val / 4) := by
    rw [floorDiv_apply, rowNo_apply]; exact floorDivS_4 ⟨r.val, by omega⟩
  show IntOp.andi (IntOp.cmpi .eq (floorMod broadcasts_S8x128_S8x128 4#32 rowNo (ix2 r l))
    (floorMod broadcasts_S8x128_S8x128 4#32 (floorDiv 2#32 lane) (ix2 r l)))
    (IntOp.cmpi .eq (floorDiv 4#32 rowNo (ix2 r l)) (BitVec.ofNat 32 j.val)) = _
  rw [h1, h2, h3]
  have e1 := cmp_eq ⟨r.val % 4, by omega⟩ ⟨l.val / 2 % 4, by omega⟩
  have e2 := cmp_eq ⟨r.val / 4, by omega⟩ ⟨j.val, by omega⟩
  simp only [] at e1 e2
  rw [e1, e2]
  simp only [Fin.mk.injEq]
  by_cases a : r.val % 4 = l.val / 2 % 4 <;> by_cases b : r.val / 4 = j.val <;> simp [a, b, IntOp.andi]

/-- Eight rows of one store of the left factor, at an index. -/
theorem lhsRows_apply (g : Fin 4) (j : Fin 2) (r0 : Fin 8) (v : FVec Ideal S8x512 .f32) (r : Fin 8) (l : Fin 128) :
    lhsRows g (BitVec.ofNat 32 j.val) r0 v (ix2 r l) =
      if r.val % 4 = l.val / 2 % 4 ∧ r.val / 4 = j.val then v (ix2 r0 ⟨128 * g.val + l.val, by omega⟩) else 0 := by
  unfold lhsRows
  pointwise
  rw [keep_apply]
  by_cases h : r.val % 4 = l.val / 2 % 4 ∧ r.val / 4 = j.val
  · rw [if_pos h, if_pos h]; rfl
  · rw [if_neg h, if_neg h]; rfl

/-- One store of the left factor, at an index. -/
theorem lhsVal_apply (g : Fin 4) (j : Fin 2) (v : FVec Ideal S8x512 .f32) (b : Fin 4) (r : Fin 8) (l : Fin 128) :
    lhsVal g j v (ix3 0 ⟨8 * b.val + r.val, by omega⟩ l) =
      if r.val % 4 = l.val / 2 % 4 ∧ r.val / 4 = j.val then
        v (ix2 ⟨4 * j.val + b.val, by omega⟩ ⟨128 * g.val + l.val, by omega⟩) else 0 := by
  unfold lhsVal
  pointwise
  obtain ⟨b, hb⟩ := b
  interval_cases b
  · have e : 8 * 0 + r.val = r.val := by omega
    rw [dif_pos (by simp only []; omega), lhsRows_apply]
    simp only [e]; rfl
  · have e : 8 * 1 + r.val - 8 = r.val := by omega
    rw [dif_neg (by simp only []; omega), dif_pos (by simp only []; omega), lhsRows_apply]
    simp only [e]
  · have e : 8 * 2 + r.val - 8 - 8 = r.val := by omega
    rw [dif_neg (by simp only []; omega), dif_neg (by simp only []; omega), dif_pos (by simp only []; omega), lhsRows_apply]
    simp only [e]
  · have e : 8 * 3 + r.val - 8 - 8 - 8 = r.val := by omega
    rw [dif_neg (by simp only []; omega), dif_neg (by simp only []; omega), dif_neg (by simp only []; omega), lhsRows_apply]
    simp only [e]

/-- The pattern of one. -/
theorem one_eq : Ideal.ofBits FTy.f32 1065353216#32 = 1 := by
  simp [Ideal.ofBits, Ideal.ieee, -EReal.coe_mul]; norm_num

/-- The pattern of zero. -/
theorem zero_eq : Ideal.ofBits FTy.f32 0#32 = 0 := by
  simp [Ideal.ofBits, Ideal.ieee]

/-- The column that column `l` of the repeated columns is taken from. -/
theorem srcCol_apply (k : Fin 128) (l : Fin 512) : srcCol (ix2 k l) = BitVec.ofNat 32 (2 * (l.val / 8) + l.val % 2) := by
  have h : (iota .tc S128x512 32 [1] iota_S128x512_d1_w32 : IVec S128x512 32) (ix2 k l) = BitVec.ofNat 32 l.val := by
    pointwise
  show IntOp.addi (IntOp.muli 2#32 (floorDivS 8#32 ((iota .tc S128x512 32 [1] iota_S128x512_d1_w32 : IVec S128x512 32) (ix2 k l))))
    (floorModS 2#32 ((iota .tc S128x512 32 [1] iota_S128x512_d1_w32 : IVec S128x512 32) (ix2 k l))) = _
  rw [h, floorDivS_8, floorModS_2]
  simp only [IntOp.addi, IntOp.muli]
  rw [BitVec.ofNat_add, BitVec.ofNat_mul]

/-- The repeated columns, at an index: the product with a 0-1 matrix picks one column. -/
theorem xeVal_apply (xs : FVec Ideal S160x128 .f32) (r : Fin 160) (l : Fin 512) :
    xeVal xs (ix2 r l) = xs (ix2 r ⟨2 * (l.val / 8) + l.val % 2, by omega⟩) := by
  unfold xeVal
  pointwise
  rw [Finset.sum_eq_single (⟨2 * (l.val / 8) + l.val % 2, by omega⟩ : Fin 128)]
  · rw [srcCol_apply]
    simp [IntOp.cmpi, Scalar.select]
  · intro k _ hk
    rw [srcCol_apply]
    have hne : BitVec.ofNat 32 k.val ≠ BitVec.ofNat 32 (2 * (l.val / 8) + l.val % 2) := by
      intro h
      have h := congrArg BitVec.toNat h
      simp only [BitVec.toNat_ofNat] at h
      exact hk (Fin.ext (by simp only []; omega))
    simp [IntOp.cmpi, Scalar.select, beq_eq_false_iff_ne.mpr hne]
  · intro h; exact absurd (Finset.mem_univ _) h

/-- The argument's columns, 128 at a time, one block of four rows below the other. -/
theorem canon_xs (X : Fin 40 → FVec Ideal S4x128 .bf16) (u : Fin 40) (b : Fin 4) (l : Fin 128) :
    View.canon (xsPieces X) (ix2 ⟨4 * u.val + b.val, by omega⟩ l) = X u (ix2 b l) := by
  let G : S160x128.Idx → EReal := fun y => X ⟨(y 0).val / 4, by have := (y 0).isLt; simp at this; omega⟩
    (ix2 ⟨(y 0).val % 4, by omega⟩ (y 1))
  have hG : ∀ (u : Fin 40) (b : Fin 4) (l : Fin 128), G (ix2 ⟨4 * u.val + b.val, by omega⟩ l) = X u (ix2 b l) := by
    intro u b l
    have e1 : (⟨(4 * u.val + b.val) / 4, by omega⟩ : Fin 40) = u := by ext; simp only []; omega
    have e2 : (⟨(4 * u.val + b.val) % 4, by omega⟩ : Fin 4) = b := by ext; simp only []; omega
    show X ⟨(4 * u.val + b.val) / 4, _⟩ (ix2 ⟨(4 * u.val + b.val) % 4, _⟩ l) = _
    rw [e1, e2]
  have he : ∀ (u : Fin 40) (b : Fin 4) (l : Fin 128), (xsPiece X u).1.emb (ix2 b l) =
      ix2 ⟨4 * u.val + b.val, by omega⟩ l := by
    intro u b l
    funext d
    match d with
    | ⟨0, _⟩ => ext; show 4 * u.val + 1 * b.val = 4 * u.val + b.val; omega
    | ⟨1, _⟩ => ext; show 0 + 1 * l.val = l.val; omega
  rw [← hG]
  refine canon_at G _ ?_ (xsPiece X u) ?_ (ix2 b l) _ (he u b l)
  · intro p hp
    simp only [xsPieces, List.mem_map] at hp
    obtain ⟨u, -, rfl⟩ := hp
    intro x
    rw [eq_ix2 x]
    erw [he u, hG]
    unfold xsPiece
    pointwise
  · simp only [xsPieces, List.mem_map]
    exact ⟨u, by simp, rfl⟩

/-- One store's half of the left factor, from the repeated columns. -/
theorem lhsVal_lhsFn (x : Fin 4 → Fin 5120 → EReal) (q : Fin 20) (g : Fin 4) (j : Fin 2) (v : FVec Ideal S8x512 .f32)
    (hv : ∀ (j : Fin 2) (b : Fin 4) (l : Fin 512), v (ix2 ⟨4 * j.val + b.val, by omega⟩ l) =
      x b ⟨256 * q.val + 128 * j.val + 2 * (l.val / 8) + l.val % 2, by omega⟩) (ρ : Fin 32) (l : Fin 128) :
    lhsVal g j v (ix3 0 ρ l) = lhsFn x (ix3 ⟨4 * q.val + g.val, by omega⟩ ρ ⟨128 * j.val + l.val, by omega⟩) := by
  have h := lhsVal_apply g j v ⟨ρ.val / 8, by omega⟩ ⟨ρ.val % 8, by omega⟩ l
  have e : (⟨8 * (ρ.val / 8) + ρ.val % 8, by omega⟩ : Fin 32) = ρ := by ext; simp only []; omega
  simp only [] at h
  rw [e] at h
  rw [h, hv j ⟨ρ.val / 8, by omega⟩ ⟨128 * g.val + l.val, by omega⟩]
  show _ = if ρ.val % 4 = (128 * j.val + l.val) / 2 % 4 ∧ ρ.val % 8 / 4 = (128 * j.val + l.val) / 128 then
    x ⟨ρ.val / 8, _⟩ ⟨256 * ((4 * q.val + g.val) / 4) + 128 * ((128 * j.val + l.val) / 128) + 32 * ((4 * q.val + g.val) % 4) +
      2 * ((128 * j.val + l.val) % 128 / 8) + (128 * j.val + l.val) % 2, _⟩ else 0
  have hc : (ρ.val % 8 % 4 = l.val / 2 % 4 ∧ ρ.val % 8 / 4 = j.val) ↔
      (ρ.val % 4 = (128 * j.val + l.val) / 2 % 4 ∧ ρ.val % 8 / 4 = (128 * j.val + l.val) / 128) := by omega
  refine if_congr hc ?_ rfl
  congr 1
  ext; simp only []; omega

/-- Reading the whole left factor of one group: zero outside a row's own byte and half. -/
theorem lhsFn_zero (x : Fin 4 → Fin 5120 → EReal) (t : Fin 80) (b : Fin 4) (j : Fin 2) (c : Fin 4) (k : Fin 256)
    (hk : ¬ (k.val / 128 = j.val ∧ k.val / 2 % 4 = c.val)) :
    lhsFn x (ix3 t ⟨8 * b.val + (row8 j c).val, by omega⟩ k) = 0 := by
  refine if_neg ?_
  show ¬((8 * b.val + (4 * j.val + c.val)) % 4 = k.val / 2 % 4 ∧ (8 * b.val + (4 * j.val + c.val)) % 8 / 4 = k.val / 128)
  omega

/-- And there, the argument's column. -/
theorem lhsFn_entry (x : Fin 4 → Fin 5120 → EReal) (q : Fin 20) (g b : Fin 4) (j : Fin 2) (c : Fin 4) (p : Fin 16 × Fin 2) :
    lhsFn x (ix3 ⟨4 * q.val + g.val, by omega⟩ ⟨8 * b.val + (row8 j c).val, by omega⟩ (col j c p)) =
      x b ⟨256 * q.val + 128 * j.val + 32 * g.val + 2 * p.1.val + p.2.val, by omega⟩ := by
  refine (if_pos ?_).trans ?_
  · show (8 * b.val + (4 * j.val + c.val)) % 4 = (128 * j.val + 8 * p.1.val + 2 * c.val + p.2.val) / 2 % 4 ∧
      (8 * b.val + (4 * j.val + c.val)) % 8 / 4 = (128 * j.val + 8 * p.1.val + 2 * c.val + p.2.val) / 128
    omega
  · congr 1
    · ext; show (8 * b.val + (4 * j.val + c.val)) / 8 = b.val; omega
    · ext
      show 256 * ((4 * q.val + g.val) / 4) + 128 * ((128 * j.val + 8 * p.1.val + 2 * c.val + p.2.val) / 128) +
        32 * ((4 * q.val + g.val) % 4) + 2 * ((128 * j.val + 8 * p.1.val + 2 * c.val + p.2.val) % 128 / 8) +
        (128 * j.val + 8 * p.1.val + 2 * c.val + p.2.val) % 2 =
        256 * q.val + 128 * j.val + 32 * g.val + 2 * p.1.val + p.2.val
      omega

end Cert.Model

end
-- ==== Proof.Contents.lean ====
module

public import proofs.«01_k».proof.Proof.Lhs

@[expose] public section

/-! What the body's loads read and what its scratches hold. -/

noncomputable section

namespace Cert.Body

open Idealize.ShloMosaic Idealize.ShloMosaic.TcCoe Cert.KernelIdeal Cert.KernelIdeal.Gen Cert.Model

/-- A load of scale bytes, at an index. -/
theorem loadV_apply (arg3 : Memref sig .tc .vmem S160x1024 .i8) (harg3 : arg3.IsWhole) (x2 : Vec Ideal S160x1024 .i8)
    (h : Fin 2) (k : Fin 5) (m : Fin 4) (a : Fin 32) (l : Fin 128) :
    loadV arg3 harg3 x2 h k m (ix2 a l) = x2 (ix2 ⟨32 * k.val + a.val, by omega⟩ ⟨512 * h.val + 128 * m.val + l.val, by omega⟩) := by
  rw [loadV, View.readAt_eq_ld, Memref.IsWhole.read_unread]
  pointwise

/-- A load of weight bytes, at an index. -/
theorem loadW_apply (arg2 : Memref sig .tc .vmem S1024x2560 .i8) (harg2 : arg2.IsWhole) (x1 : Vec Ideal S1024x2560 .i8)
    (h : Fin 2) (q : Fin 20) (a : Fin 512) (p : Fin 128) :
    loadW arg2 harg2 x1 h q (ix2 a p) = x1 (ix2 ⟨512 * h.val + a.val, by omega⟩ ⟨128 * q.val + p.val, by omega⟩) := by
  rw [loadW, View.readAt_eq_ld, Memref.IsWhole.read_unread]
  pointwise

/-- A load of argument columns, at an index. -/
theorem loadX_apply (arg1 : Memref sig .tc .vmem S4x5120 .bf16) (harg1 : arg1.IsWhole) (x0 : Vec Ideal S4x5120 .bf16)
    (u : Fin 40) (b : Fin 4) (l : Fin 128) :
    loadX arg1 harg1 x0 u (ix2 b l) = x0 (ix2 b ⟨128 * u.val + l.val, by omega⟩) := by
  rw [loadX, View.readAt_eq_ld, Memref.IsWhole.read_unread]
  pointwise

/-- A load of the left factor found by a later point, at an index. -/
theorem loadL_apply (arg7 : Memref sig .tc .vmem S80x32x256 .bf16) (harg7 : arg7.IsWhole) (xs2 : Vec Ideal S80x32x256 .bf16)
    (t : Fin 80) (ρ : Fin 32) (k : Fin 256) :
    View.readAt (Elt Ideal) arg7.view (rectL t).toLoadRect (harg7.unread xs2) (ix3 0 ρ k) = xs2 (ix3 t ρ k) := by
  rw [View.readAt_eq_ld, Memref.IsWhole.read_unread]
  show xs2 ((rectL t).toLoadRect.idx _) = _
  congr 1
  funext d
  match d with
  | ⟨0, _⟩ => ext; show t.val + 1 * 0 = t.val; omega
  | ⟨1, _⟩ => ext; show 0 + 1 * ρ.val = ρ.val; omega
  | ⟨2, _⟩ => ext; show 0 + 1 * k.val = k.val; omega

/-- A covered load of the left factor. -/
theorem covL_apply (arg7 : Memref sig .tc .vmem S80x32x256 .bf16) (L : List (View.Piece (Elt Ideal) S80x32x256 .bf16))
    (t : Fin 80) (ρ : Fin 32) (k : Fin 256) :
    arg7.view.readCov L (rectL t).toLoadRect (ix3 0 ρ k) = View.canon L (ix3 t ρ k) := by
  rw [View.readCov_eq_canon']
  show View.canon L _ = _
  congr 1
  funext d
  match d with
  | ⟨0, _⟩ => ext; show t.val + 1 * 0 = t.val; omega
  | ⟨1, _⟩ => ext; show 0 + 1 * ρ.val = ρ.val; omega
  | ⟨2, _⟩ => ext; show 0 + 1 * k.val = k.val; omega

/-- A covered load of the scale words. -/
theorem covS_apply (arg8 : Memref sig .tc .vmem S2x160x128 .i32) (L : List (View.Piece (Elt Ideal) S2x160x128 .i32))
    (h : Fin 2) (q : Fin 20) (r : Fin 8) (R : Fin 128) :
    arg8.view.readCov L (rectS h q).toLoadRect (ix3 0 r R) = View.canon L (ix3 h ⟨8 * q.val + r.val, by omega⟩ R) := by
  rw [View.readCov_eq_canon']
  show View.canon L _ = _
  congr 1
  funext d
  match d with
  | ⟨0, _⟩ => ext; show h.val + 1 * 0 = h.val; omega
  | ⟨1, _⟩ => ext; show 8 * q.val + 1 * r.val = 8 * q.val + r.val; omega
  | ⟨2, _⟩ => ext; show 0 + 1 * R.val = R.val; omega

/-- A covered load of every eighth row of the totals. -/
theorem covZ_apply (arg9 : Memref sig .tc .vmem S64x128 .f32) (L : List (View.Piece (Elt Ideal) S64x128 .f32))
    (c : Fin 4) (a : Fin 8) (R : Fin 128) :
    arg9.view.readCov L (rectZ c).toLoadRect (ix2 a R) = View.canon L (ix2 ⟨c.val + 8 * a.val, by omega⟩ R) := by
  rw [View.readCov_eq_canon']
  show View.canon L _ = _
  congr 1
  funext d
  match d with
  | ⟨0, _⟩ => rfl
  | ⟨1, _⟩ => ext; show 0 + 1 * R.val = R.val; omega

section
variable (c : Dev nD) (arg2 : Memref sig .tc .vmem S1024x2560 .i8) (harg2 : arg2.IsWhole)
    (arg3 : Memref sig .tc .vmem S160x1024 .i8) (harg3 : arg3.IsWhole)
    (arg7 : Memref sig .tc .vmem S80x32x256 .bf16) (harg7 : arg7.IsWhole)
    (arg8 : Memref sig .tc .vmem S2x160x128 .i32) (arg9 : Memref sig .tc .vmem S64x128 .f32)
    (i : grid0.Coords) (arg1 : Memref sig .tc .vmem S4x5120 .bf16) (harg1 : arg1.IsWhole)
    (arg4 : Memref sig .tc .vmem S4x1024 .bf16) (harg4 : arg4.IsWhole)
    (arg5 : Memref sig .tc .vmem S160x128 .f32) (harg5 : arg5.IsWhole)
    (arg6 : Memref sig .tc .vmem S160x512 .f32) (harg6 : arg6.IsWhole)
    (harg8 : arg8.IsWhole) (harg9 : arg9.IsWhole) (x0 : Vec Ideal S4x5120 .bf16)

/-- The repeated columns one round of the left factor's loop reads. -/
theorem xe_apply (hc0 : cond0_0 i) (k : Fin k0_t1_loop.trips) (hk : k.val < 20) (j : Fin 2) (b : Fin 4) (l : Fin 512) :
    View.readAt (Elt Ideal) arg6.view (rectXe i k hc0).toLoadRect
      (arg6.view.writes (Elt Ideal) arg6.view.junk (kernelRun0_A.sl.HS1_1 c arg1 harg1 arg5 x0))
      (ix2 ⟨4 * j.val + b.val, by omega⟩ l) =
    x0 (ix2 b ⟨256 * k.val + 128 * j.val + 2 * (l.val / 8) + l.val % 2, by omega⟩) := by
  rw [View.readAt_writes_junk_eq_canon, xe_A, xs_A]
  show View.canon _ ((rectXe i k hc0).toLoadRect.idx _) = _
  have e : (rectXe i k hc0).toLoadRect.idx (ix2 ⟨4 * j.val + b.val, by omega⟩ l) =
      ix2 ⟨4 * (2 * k.val + j.val) + b.val, by omega⟩ l := by
    funext d
    match d with
    | ⟨0, _⟩ =>
      ext
      show k0_off1 k 0 + 1 * (4 * j.val + b.val) = 4 * (2 * k.val + j.val) + b.val
      rw [k0_off1_eq]; show 8 * k.val + 1 * (4 * j.val + b.val) = _; omega
    | ⟨1, _⟩ =>
      ext
      show k0_off1 k 1 + 1 * l.val = l.val
      rw [k0_off1_eq]; show 0 + 1 * l.val = _; omega
  erw [e]
  rw [View.canon_unit_zero (by funext a; match a with | ⟨0, _⟩ => rfl | ⟨1, _⟩ => rfl)]
  refine (xeVal_apply _ _ _).trans ?_
  rw [View.readCov_eq_canon']
  show View.canon _ (rectXs.toLoadRect.idx _) = _
  have e' : rectXs.toLoadRect.idx (ix2 ⟨4 * (2 * k.val + j.val) + b.val, by omega⟩ ⟨2 * (l.val / 8) + l.val % 2, by omega⟩) =
      ix2 ⟨4 * (2 * k.val + j.val) + b.val, by omega⟩ ⟨2 * (l.val / 8) + l.val % 2, by omega⟩ := by
    funext d
    match d with
    | ⟨0, _⟩ => ext; show 0 + 1 * (4 * (2 * k.val + j.val) + b.val) = _; exact (Nat.zero_add _).trans (Nat.one_mul _)
    | ⟨1, _⟩ => ext; show 0 + 1 * (2 * (l.val / 8) + l.val % 2) = _; exact (Nat.zero_add _).trans (Nat.one_mul _)
  erw [e']
  rw [canon_xs _ ⟨2 * k.val + j.val, by omega⟩ b, loadX_apply]
  congr 2
  ext; simp only []; omega

/-- Every store of the first `n` rounds is the store of some round, group and half. -/
theorem lhs_mem (hc0 : cond0_0 i) (X : BufTy.Contents (Elt Ideal) arg6.view.ty) : ∀ n : ℕ, n ≤ k0_t1_loop.trips →
    ∀ p, p ∈ pb_k0_t1 (F := Ideal) Variants.none c none i arg1 harg1 arg2 harg2 arg3 harg3 arg4 harg4 arg5 harg5 arg6 harg6
      arg7 harg7 arg8 harg8 arg9 harg9 hc0 kernelRun0_A.sl.v7995
      (cmpi CmpIPredicate.eq kernelRun0_A.sl.v8012 kernelRun0_A.sl.v8052) 0#32 1#32 X n ↔
      ∃ k : Fin k0_t1_loop.trips, k.val < n ∧ ∃ g j, p = lhsPiece i arg6 hc0 X k g j
  | 0, _, p => by
    simp [pb_k0_t1]
  | n + 1, hn, p => by
    rw [show n + 1 = (⟨n, hn⟩ : Fin k0_t1_loop.trips).val + 1 from rfl, pb_k0_t1_succ, trip_A, List.mem_append,
      lhs_mem hc0 X n (by omega)]
    constructor
    · rintro (h | ⟨k, hk, h⟩)
      · simp only [lhsRound, List.mem_flatMap, List.mem_map] at h
        obtain ⟨g, -, j, -, rfl⟩ := h
        exact ⟨⟨n, hn⟩, Nat.lt_succ_self n, g, j, rfl⟩
      · exact ⟨k, by simp only []; omega, h⟩
    · rintro ⟨k, hk, g, j, rfl⟩
      rcases Nat.lt_succ_iff_lt_or_eq.mp hk with h | h
      · exact Or.inr ⟨k, h, g, j, rfl⟩
      · left
        obtain rfl : k = ⟨n, hn⟩ := Fin.ext h
        simp only [lhsRound, List.mem_flatMap, List.mem_map]
        exact ⟨g, mem_four g, j, mem_two j, rfl⟩

/-- The loop runs twenty rounds. -/
theorem trips_eq : k0_t1_loop.trips = 20 := by decide +kernel

/-- What the left factor's scratch holds after its loop. -/
theorem canon_lhs (hc0 : cond0_0 i) (y : S80x32x256.Idx) :
    View.canon (lhsAll c arg2 harg2 arg3 harg3 arg7 harg7 arg8 arg9 i arg1 harg1 arg4 harg4 arg5 harg5 arg6 harg6 harg8 harg9 x0 hc0) y =
      lhsFn (fun b k => x0 (ix2 b k)) y := by
  have ht := trips_eq
  have hmem := lhs_mem c arg2 harg2 arg3 harg3 arg7 harg7 arg8 arg9 i arg1 harg1 arg4 harg4 arg5 harg5 arg6 harg6 harg8 harg9 hc0
    (arg6.view.writes (Elt Ideal) arg6.view.junk (kernelRun0_A.sl.HS1_1 c arg1 harg1 arg5 x0)) _ (le_refl _)
  have he : ∀ X (k : Fin k0_t1_loop.trips) (g : Fin 4) (j : Fin 2) (ρ : Fin 32) (l : Fin 128),
      (lhsPiece i arg6 hc0 X k g j).1.emb (ix3 0 ρ l) =
        ix3 ⟨4 * k.val + g.val, by omega⟩ ρ ⟨128 * j.val + l.val, by omega⟩ := by
    intro X k g j ρ l
    have ho : lhsOff k g j = ![4 * k.val + g.val, 0, 128 * j.val] := by
      match j with
      | 0 => exact k0_off2_eq k g
      | 1 => exact k0_off3_eq k g
    funext d
    match d with
    | ⟨0, _⟩ =>
      ext; show lhsOff k g j 0 + 1 * 0 = 4 * k.val + g.val
      rw [ho]; rfl
    | ⟨1, _⟩ =>
      ext; show lhsOff k g j 1 + 1 * ρ.val = ρ.val
      rw [ho]; show 0 + 1 * ρ.val = ρ.val; omega
    | ⟨2, _⟩ =>
      ext; show lhsOff k g j 2 + 1 * l.val = 128 * j.val + l.val
      rw [ho]; show 128 * j.val + 1 * l.val = 128 * j.val + l.val; omega
  have h0 : (y 0).val < 80 := (y 0).isLt
  have h2 : (y 2).val < 256 := (y 2).isLt
  refine canon_at _ _ ?_ (lhsPiece i arg6 hc0 _ ⟨(y 0).val / 4, by omega⟩ ⟨(y 0).val % 4, by omega⟩ ⟨(y 2).val / 128, by omega⟩)
    ((hmem _).mpr ⟨_, ?_, _, _, rfl⟩) (ix3 0 (y 1) ⟨(y 2).val % 128, by omega⟩) y ?_
  · intro p hp x
    obtain ⟨k, hk, g, j, rfl⟩ := (hmem p).mp hp
    have key : ∀ (z : Fin 1) (ρ : Fin 32) (l : Fin 128),
        lhsVal g j (View.readAt (Elt Ideal) arg6.view (rectXe i k hc0).toLoadRect
          (arg6.view.writes (Elt Ideal) arg6.view.junk (kernelRun0_A.sl.HS1_1 c arg1 harg1 arg5 x0))) (ix3 z ρ l) =
        lhsFn (fun b k => x0 (ix2 b k)) ((lhsPiece i arg6 hc0
          (arg6.view.writes (Elt Ideal) arg6.view.junk (kernelRun0_A.sl.HS1_1 c arg1 harg1 arg5 x0)) k g j).1.emb (ix3 z ρ l)) := by
      intro z ρ l
      obtain rfl : z = 0 := Subsingleton.elim _ _
      rw [he]
      exact lhsVal_lhsFn (fun b k => x0 (ix2 b k)) ⟨k.val, by omega⟩ g j _
        (fun j b l => xe_apply c i arg1 harg1 arg5 arg6 x0 hc0 k (by omega) j b l) ρ l
    rw [eq_ix3 x]
    exact key _ _ _
  · exact Fin.isLt _
  · erw [he]
    funext d
    match d with
    | ⟨0, _⟩ => ext; show 4 * ((y 0).val / 4) + (y 0).val % 4 = (y 0).val; omega
    | ⟨1, _⟩ => rfl
    | ⟨2, _⟩ => ext; show 128 * ((y 2).val / 128) + (y 2).val % 128 = (y 2).val; omega

end

end Cert.Body

end
-- ==== Proof.Scales.lean ====
module

public import proofs.«01_k».proof.Proof.Block

@[expose] public section

/-! The scale words, as the scale scratch holds them. -/

noncomputable section

namespace Cert.Model

open Idealize.ShloMosaic Cert.KernelIdeal Cert.KernelIdeal.Gen Cert.Spec

/-- The words of 32 rows of scale bytes. -/
def wordOf (b : IVec S32x128 8) : IVec S8x128 32 := bitcast S8x128 32 b bitcasts_S32x128_w8_S8x128_w32

/-- Byte `i` of a word is one of the four rows it was made of. -/
theorem wordOf_byte (b : IVec S32x128 8) (a : Fin 8) (l : Fin 128) (i : Fin 4) :
    (wordOf b (ix2 a l)).extractLsb' (8 * i.val) 8 = b (ix2 ⟨4 * a.val + i.val, by omega⟩ l) := by
  ext n hn
  simp only [BitVec.getElem_extractLsb']
  have h := bitcast_8_32_getLsbD_ix2 b bitcasts_S32x128_w8_S8x128_w32 a l (8 * i.val + n) (by omega)
    ⟨4 * a.val + i.val, by omega⟩ (by simp only []; omega)
  rw [ix2_same, ix2_same, show (8 * i.val + n) % 8 = n by omega] at h
  rw [← BitVec.getLsbD_eq_getElem]
  exact h

/-- The distance of two quarters of the lanes, modulo 4. -/
theorem diff_eq : ∀ Q m : Fin 4, floorModS 4#32 (IntOp.subi (BitVec.ofNat 32 Q.val) (BitVec.ofNat 32 m.val)) =
    BitVec.ofNat 32 ((Q.val + 4 - m.val) % 4) := by decide +kernel

/-- The source a quarter gives: lane `l` reads the lane four times as far in its quarter, plus the quarters between. -/
theorem src_apply (m : Fin 4) (b : IVec S32x128 8) (a : Fin 8) (l : Fin 128) :
    src (BitVec.ofNat 32 m.val) b (ix2 a l) =
      wordOf b (ix2 a ⟨4 * (l.val % 32) + (l.val / 32 + 4 - m.val) % 4, by omega⟩) := by
  unfold src
  rw [shapeCast_self]
  refine gather_apply _ _ a l _ (takeIdx_apply _ a l ⟨4 * (l.val % 32) + (l.val / 32 + 4 - m.val) % 4, by omega⟩ ?_)
  show IntOp.addi (IntOp.muli 4#32 (floorModS 32#32 (lane (ix2 a l))))
    (floorModS 4#32 (IntOp.subi (floorDivS 32#32 (lane (ix2 a l))) (BitVec.ofNat 32 m.val))) = _
  rw [lane_apply, floorModS_32, floorDivS_32, show floorModS 4#32 (IntOp.subi (BitVec.ofNat 32 (l.val / 32)) (BitVec.ofNat 32 m.val)) = _
    from diff_eq ⟨l.val / 32, by omega⟩ m]
  simp only [IntOp.addi, IntOp.muli]
  rw [BitVec.ofNat_add, BitVec.ofNat_mul]

/-- The merged words: quarter `Q` of the lanes takes source `Q - c`. -/
theorem merge_apply (c : Fin 4) (s : Fin 4 → IVec S8x128 32) (a : Fin 8) (l : Fin 128) :
    merge (BitVec.ofNat 32 ((1 + c.val) % 4)) (BitVec.ofNat 32 ((2 + c.val) % 4)) (BitVec.ofNat 32 ((3 + c.val) % 4))
      (s 0) (s 1) (s 2) (s 3) (ix2 a l) = s ⟨(l.val / 32 + 4 - c.val) % 4, by omega⟩ (ix2 a l) := by
  have hc (k : Fin 8) : cmpi .eq (floorDiv 32#32 lane) (bc (BitVec.ofNat 32 k.val)) (ix2 a l) =
      if (⟨l.val / 32, by omega⟩ : Fin 8) = k then 1#1 else 0#1 := by
    rw [← cmp_eq]
    show IntOp.cmpi .eq (floorDivS 32#32 (lane (ix2 a l))) _ = _
    rw [lane_apply, floorDivS_32]; rfl
  unfold merge
  show Scalar.select _ _ (Scalar.select _ _ (Scalar.select _ _ _)) = _
  rw [show cmpi .eq (floorDiv 32#32 lane) (bc (BitVec.ofNat 32 ((3 + c.val) % 4))) (ix2 a l) = _ from hc ⟨(3 + c.val) % 4, by omega⟩,
    show cmpi .eq (floorDiv 32#32 lane) (bc (BitVec.ofNat 32 ((2 + c.val) % 4))) (ix2 a l) = _ from hc ⟨(2 + c.val) % 4, by omega⟩,
    show cmpi .eq (floorDiv 32#32 lane) (bc (BitVec.ofNat 32 ((1 + c.val) % 4))) (ix2 a l) = _ from hc ⟨(1 + c.val) % 4, by omega⟩]
  have h4 : l.val / 32 = 0 ∨ l.val / 32 = 1 ∨ l.val / 32 = 2 ∨ l.val / 32 = 3 := by omega
  obtain ⟨c, hc⟩ := c
  rcases h4 with e | e | e | e <;> interval_cases c <;> simp [e, Scalar.select, Fin.ext_iff] <;> rfl

/-- The sources merged for residue `c`. -/
theorem merge_src (c : Fin 4) (V : Fin 4 → IVec S32x128 8) (a : Fin 8) (l : Fin 128) :
    merge (BitVec.ofNat 32 ((1 + c.val) % 4)) (BitVec.ofNat 32 ((2 + c.val) % 4)) (BitVec.ofNat 32 ((3 + c.val) % 4))
      (src 0#32 (V 0)) (src 1#32 (V 1)) (src 2#32 (V 2)) (src 3#32 (V 3)) (ix2 a l) =
      wordOf (V ⟨(l.val / 32 + 4 - c.val) % 4, by omega⟩) (ix2 a ⟨4 * (l.val % 32) + c.val, by omega⟩) := by
  refine (merge_apply c (fun m => src (BitVec.ofNat 32 m.val) (V m)) a l).trans ?_
  rw [src_apply]
  congr 2
  ext; simp only []; omega

/-- Rolled into place: lane `l` holds the word of output `4 l + c`. -/
theorem spVal_apply (c : Fin 4) (V : Fin 4 → IVec S32x128 8) (a : Fin 8) (l : Fin 128) :
    spVal c (src 0#32 (V 0)) (src 1#32 (V 1)) (src 2#32 (V 2)) (src 3#32 (V 3)) (ix3 0 a l) =
      wordOf (V ⟨l.val / 32, by omega⟩) (ix2 a ⟨4 * (l.val % 32) + c.val, by omega⟩) := by
  have h := merge_src c V a ⟨(l.val + 32 * c.val) % 128, by omega⟩
  have e1 : (⟨((l.val + 32 * c.val) % 128 / 32 + 4 - c.val) % 4, by omega⟩ : Fin 4) = ⟨l.val / 32, by omega⟩ := by
    ext; simp only []; omega
  have e2 : (⟨4 * ((l.val + 32 * c.val) % 128 % 32) + c.val, by omega⟩ : Fin 128) = ⟨4 * (l.val % 32) + c.val, by omega⟩ := by
    ext; simp only []; omega
  simp only [] at h
  rw [e1, e2] at h
  rw [← h]
  match c with
  | 0 =>
    unfold spVal; pointwise
    congr 2; ext; simp only []; omega
  | 1 =>
    unfold spVal; pointwise
    congr 2
  | 2 =>
    unfold spVal; pointwise
    congr 2
  | 3 =>
    unfold spVal; pointwise
    congr 2

/-- All five blocks are in the list of the stores. -/
theorem mem_five : ∀ k : Fin 5, k ∈ ([4, 3, 2, 1, 0] : List (Fin 5)) := by decide

/-- The scale scratch. -/
theorem canon_sp (V : Fin 2 → Fin 5 → Fin 4 → IVec S32x128 8) (h : Fin 2) (ρ : Fin 160) (R : Fin 128) :
    View.canon (spPieces V) (ix3 h ρ R) = wordOf (V h ⟨ρ.val / 32, by omega⟩ ⟨R.val / 32, by omega⟩)
      (ix2 ⟨ρ.val % 32 / 4, by omega⟩ ⟨4 * (R.val % 32) + ρ.val % 4, by omega⟩) := by
  let F : Fin 2 → Fin 160 → Fin 128 → BitVec 32 := fun h ρ R => wordOf (V h ⟨ρ.val / 32, by omega⟩ ⟨R.val / 32, by omega⟩)
      (ix2 ⟨ρ.val % 32 / 4, by omega⟩ ⟨4 * (R.val % 32) + ρ.val % 4, by omega⟩)
  let G : S2x160x128.Idx → BitVec 32 := fun y => F (y 0) (y 1) (y 2)
  have he : ∀ (h : Fin 2) (k : Fin 5) (c : Fin 4) (a : Fin 8) (l : Fin 128), (spPiece V h k c).1.emb (ix3 0 a l) =
      ix3 h ⟨32 * k.val + c.val + 4 * a.val, by omega⟩ l := by
    intro h k c a l
    funext d
    match d with
    | ⟨0, _⟩ => ext; show h.val + 1 * 0 = h.val; omega
    | ⟨1, _⟩ => rfl
    | ⟨2, _⟩ => ext; show 0 + 1 * l.val = l.val; omega
  have hF : ∀ (h : Fin 2) (k : Fin 5) (c : Fin 4) (a : Fin 8) (l : Fin 128),
      F h ⟨32 * k.val + c.val + 4 * a.val, by omega⟩ l = wordOf (V h k ⟨l.val / 32, by omega⟩)
        (ix2 a ⟨4 * (l.val % 32) + c.val, by omega⟩) := by
    intro h k c a l
    have e1 : (⟨(32 * k.val + c.val + 4 * a.val) / 32, by omega⟩ : Fin 5) = k := by ext; simp only []; omega
    have e2 : (⟨(32 * k.val + c.val + 4 * a.val) % 32 / 4, by omega⟩ : Fin 8) = a := by ext; simp only []; omega
    have e3 : (⟨4 * (l.val % 32) + (32 * k.val + c.val + 4 * a.val) % 4, by omega⟩ : Fin 128) =
      ⟨4 * (l.val % 32) + c.val, by omega⟩ := by ext; simp only []; omega
    show wordOf (V h ⟨(32 * k.val + c.val + 4 * a.val) / 32, _⟩ _) (ix2 ⟨(32 * k.val + c.val + 4 * a.val) % 32 / 4, _⟩
      ⟨4 * (l.val % 32) + (32 * k.val + c.val + 4 * a.val) % 4, _⟩) = _
    rw [e1, e2, e3]
  refine canon_at G _ ?_ (spPiece V h ⟨ρ.val / 32, by omega⟩ ⟨ρ.val % 4, by omega⟩) ?_
    (ix3 0 ⟨ρ.val % 32 / 4, by omega⟩ R) (ix3 h ρ R) ?_
  · intro p hp
    simp only [spPieces, List.mem_flatMap, List.mem_map] at hp
    obtain ⟨h, -, k, -, c, -, rfl⟩ := hp
    intro x
    have key : ∀ (z : Fin 1) (a : Fin 8) (l : Fin 128),
        spVal c (src 0#32 (V h k 0)) (src 1#32 (V h k 1)) (src 2#32 (V h k 2)) (src 3#32 (V h k 3)) (ix3 z a l) =
          G ((spPiece V h k c).1.emb (ix3 z a l)) := by
      intro z a l
      obtain rfl : z = 0 := Subsingleton.elim _ _
      rw [he, spVal_apply c (V h k)]
      exact (hF h k c a l).symm
    rw [eq_ix3 x]
    exact key _ _ _
  · simp only [spPieces, List.mem_flatMap, List.mem_map]
    exact ⟨h, mem_two h, _, mem_five _, _, mem_four _, rfl⟩
  · rw [he]
    congr 1
    ext; simp only []; omega

end Cert.Model

end
-- ==== Proof.KernelBlock.lean ====
module

public import proofs.«01_k».proof.Proof.Contents
public import proofs.«01_k».proof.Proof.Scales

@[expose] public section

/-! What one grid point leaves in its block of the result, and in the scratch the next points read. -/

noncomputable section

namespace Cert.Body

open Idealize.ShloMosaic Idealize.ShloMosaic.TcCoe Cert.KernelIdeal Cert.KernelIdeal.Gen Cert.Model Cert.Spec

/-- The bytes the windows and the scratches of a point hold are the operands of its block: the left factor's scratch
    holds `x` laid out, the weight window holds `x1`, the scale window `x2` with the groups along its rows. -/
theorem operands (arg2 : Memref sig .tc .vmem S1024x2560 .i8) (harg2 : arg2.IsWhole)
    (arg3 : Memref sig .tc .vmem S160x1024 .i8) (harg3 : arg3.IsWhole) (arg8 : Memref sig .tc .vmem S2x160x128 .i32)
    (x1 : Vec Ideal S1024x2560 .i8) (x2 : Vec Ideal S160x1024 .i8) (x : Fin 4 → Fin 5120 → EReal)
    (L : Fin 80 → FVec Ideal S1x32x256 .bf16) (hL : ∀ t ρ k, L t (ix3 0 ρ k) = lhsFn x (ix3 t ρ k))
    (P : List (View.Piece (Elt Ideal) S2x160x128 .i32)) (hP : P = spPieces (loadV arg3 harg3 x2))
    (hx2 : ∀ G o, (x2 (ix2 G o)).toNat ≤ 254) :
    Operands (loadW arg2 harg2 x1) (fun h q => arg8.view.readCov P (rectS h q).toLoadRect) L x
      (fun o p => x1 (ix2 o p)) (fun o G => x2 (ix2 G o)) where
  weight h q a p := loadW_apply arg2 harg2 x1 h q a p
  scale h q j c R g := by
    subst hP
    have e := covS_apply arg8 (spPieces (loadV arg3 harg3 x2)) h q (row8 j c) R
    refine (congrArg (BitVec.extractLsb' (8 * g.val) 8) (e.trans (canon_sp _ _ _ _))).trans ?_
    refine (wordOf_byte _ _ _ g).trans ?_
    refine (loadV_apply arg3 harg3 x2 _ _ _ _ _).trans ?_
    congr 1
    refine congrArg₂ ix2 ?_ ?_ <;> ext <;> simp only [row8] <;> omega
  zero q g b j c k hk := (hL _ _ _).trans (lhsFn_zero x _ b j c k hk)
  entry q g b j c p := (hL _ _ _).trans (lhsFn_entry x q g b j c p)
  high o G := hx2 G o

/-- A point's block of the result, whatever way its left factor is read. -/
theorem block_of (arg2 : Memref sig .tc .vmem S1024x2560 .i8) (harg2 : arg2.IsWhole)
    (arg3 : Memref sig .tc .vmem S160x1024 .i8) (harg3 : arg3.IsWhole) (arg8 : Memref sig .tc .vmem S2x160x128 .i32)
    (arg9 : Memref sig .tc .vmem S64x128 .f32)
    (x1 : Vec Ideal S1024x2560 .i8) (x2 : Vec Ideal S160x1024 .i8) (x : Fin 4 → Fin 5120 → EReal)
    (L : Fin 80 → FVec Ideal S1x32x256 .bf16) (hL : ∀ t ρ k, L t (ix3 0 ρ k) = lhsFn x (ix3 t ρ k))
    (P : List (View.Piece (Elt Ideal) S2x160x128 .i32)) (hP : P = spPieces (loadV arg3 harg3 x2))
    (hx2 : ∀ G o, (x2 (ix2 G o)).toNat ≤ 254)
    (Z : List (View.Piece (Elt Ideal) S64x128 .f32)) (hZ : Z = zPieces fun b => acc (loadW arg2 harg2 x1)
      (fun h q => arg8.view.readCov P (rectS h q).toLoadRect) L b 20 (le_refl _)) (b : Fin 4) (o : Fin 1024) :
    View.canon (outPieces (arg9.view.readCov Z (rectZ 0).toLoadRect) (arg9.view.readCov Z (rectZ 1).toLoadRect)
      (arg9.view.readCov Z (rectZ 2).toLoadRect) (arg9.view.readCov Z (rectZ 3).toLoadRect)) (ix2 b o) =
      ∑ G : Fin 160, term x (fun o p => x1 (ix2 o p)) (fun o G => x2 (ix2 G o)) b o G :=
  block_apply (operands arg2 harg2 arg3 harg3 arg8 x1 x2 x L hL P hP hx2) Z hZ
    (fun k => arg9.view.readCov Z (rectZ k).toLoadRect) (fun k a R => covZ_apply arg9 Z k a R) b o

variable (c : Dev nD) (arg2 : Memref sig .tc .vmem S1024x2560 .i8) (harg2 : arg2.IsWhole)
    (arg3 : Memref sig .tc .vmem S160x1024 .i8) (harg3 : arg3.IsWhole)
    (arg7 : Memref sig .tc .vmem S80x32x256 .bf16) (harg7 : arg7.IsWhole)
    (arg8 : Memref sig .tc .vmem S2x160x128 .i32) (arg9 : Memref sig .tc .vmem S64x128 .f32)
    (x1 : Vec Ideal S1024x2560 .i8) (x2 : Vec Ideal S160x1024 .i8) (xs2 : Vec Ideal S80x32x256 .bf16)
    (i : grid0.Coords) (arg1 : Memref sig .tc .vmem S4x5120 .bf16) (harg1 : arg1.IsWhole)
    (arg4 : Memref sig .tc .vmem S4x1024 .bf16) (harg4 : arg4.IsWhole)
    (arg5 : Memref sig .tc .vmem S160x128 .f32) (harg5 : arg5.IsWhole)
    (arg6 : Memref sig .tc .vmem S160x512 .f32) (harg6 : arg6.IsWhole)
    (harg8 : arg8.IsWhole) (harg9 : arg9.IsWhole) (x0 : Vec Ideal S4x5120 .bf16)

/-- At the first point the left factor's scratch ends holding the argument laid out. -/
theorem scratch_A (hc0 : cond0_0 i) (y : S80x32x256.Idx) :
    sout0_A_2 c i arg1 harg1 arg2 harg2 arg3 harg3 arg4 harg4 arg5 harg5 arg6 harg6 arg7 harg7 arg8 harg8 arg9 harg9
      hc0 x0 x1 x2 y = lhsFn (fun b k => x0 (ix2 b k)) y := by
  unfold sout0_A_2
  rw [View.read_writes_junk_eq_canon, lhs_A]
  exact canon_lhs ..

/-- The first point's block of the result. -/
theorem block_A (hc0 : cond0_0 i) (hx2 : ∀ G o, (x2 (ix2 G o)).toNat ≤ 254)
    (b : Fin 4) (o : Fin 1024) :
    out0_A_3 c i arg1 harg1 arg2 harg2 arg3 harg3 arg4 harg4 arg5 harg5 arg6 harg6 arg7 harg7 arg8 harg8 arg9 harg9
      hc0 x0 x1 x2 (ix2 b o) =
      ∑ G : Fin 160, term (fun b k => x0 (ix2 b k)) (fun o p => x1 (ix2 o p)) (fun o G => x2 (ix2 G o)) b o G := by
  unfold out0_A_3
  rw [View.read_writes_junk_eq_canon, out_A]
  have hP := sp_A c arg3 harg3 x2
  have hZ := z_A c arg2 harg2 arg3 harg3 arg7 harg7 arg8 arg9 x1 x2 i arg1 harg1 arg4 harg4 arg5 harg5 arg6 harg6 harg8
    harg9 x0 hc0
  have hL : ∀ t ρ k, arg7.view.readCov (lhsAll c arg2 harg2 arg3 harg3 arg7 harg7 arg8 arg9 i arg1 harg1 arg4 harg4 arg5
      harg5 arg6 harg6 harg8 harg9 x0 hc0) (rectL t).toLoadRect (ix3 0 ρ k) = lhsFn (fun b k => x0 (ix2 b k)) (ix3 t ρ k) :=
    fun t ρ k => (covL_apply arg7 _ t ρ k).trans (canon_lhs ..)
  generalize kernelRun0_A.sl.HS3_40 c arg3 harg3 x2 = P at hP hZ
  generalize lhsAll c arg2 harg2 arg3 harg3 arg7 harg7 arg8 arg9 i arg1 harg1 arg4 harg4 arg5
      harg5 arg6 harg6 harg8 harg9 x0 hc0 = L at hL hZ
  generalize kernelRun0_A.sl.HS4_8 c i arg1 harg1 arg2 harg2 arg3 harg3 arg4 harg4 arg5 harg5 arg6 harg6 arg7 harg7 arg8
    harg8 arg9 harg9 hc0 x0 x1 x2 = Z at hZ ⊢
  exact block_of arg2 harg2 arg3 harg3 arg8 arg9 x1 x2 _ _ hL P hP hx2 Z hZ b o

/-- Another point's block of the result, when the scratch it finds holds the argument `x` laid out. -/
theorem block_B (hc0 : ¬cond0_0 i) (hx2 : ∀ G o, (x2 (ix2 G o)).toNat ≤ 254)
    (x : Fin 4 → Fin 5120 → EReal) (hs : ∀ y, xs2 y = lhsFn x y) (b : Fin 4) (o : Fin 1024) :
    out0_B_3 c i arg1 harg1 arg2 harg2 arg3 harg3 arg4 harg4 arg5 harg5 arg6 harg6 arg7 harg7 arg8 harg8 arg9 harg9
      hc0 x0 x1 x2 xs2 (ix2 b o) =
      ∑ G : Fin 160, term x (fun o p => x1 (ix2 o p)) (fun o G => x2 (ix2 G o)) b o G := by
  unfold out0_B_3
  rw [View.read_writes_junk_eq_canon, out_B]
  have hP := sp_B c arg3 harg3 x2
  have hZ := z_B c arg2 harg2 arg3 harg3 arg7 harg7 arg8 x1 x2 xs2
  generalize kernelRun0_B.sl.HS3_40 c arg3 harg3 x2 = P at hP hZ
  generalize kernelRun0_B.sl.HS4_8 c arg2 harg2 arg3 harg3 arg7 harg7 arg8 x1 x2 xs2 = Z at hZ ⊢
  exact block_of arg2 harg2 arg3 harg3 arg8 arg9 x1 x2 x _ (fun t ρ k => (loadL_apply arg7 harg7 xs2 t ρ k).trans (hs _))
    P hP hx2 Z hZ b o

end Cert.Body
-- ==== Proof.KernelValue.lean ====
module

public import proofs.«01_k».proof.Proof.KernelBlock
public import proofs.«01_k».proof.Proof.Gen.KernelIdeal.Value
public import Idealize.ShloMosaic.Lib.Pipeline.ValueKit

@[expose] public section

/-! The kernel's result, read at an index. -/

set_option maxRecDepth 16384

noncomputable section

namespace Cert.KernelValue

open Idealize.ShloMosaic Idealize.ShloMosaic.TcCoe Idealize.SL.Sem Cert.KernelIdeal Cert.KernelIdeal.Gen Cert.Model Cert.Spec

variable (m : (ℓ : Loc nD τ sig) → Buf (Elt Ideal) ℓ) (c : Dev nD)

/-- The rows the region finds: the argument without its middle axis. -/
theorem V_rows : V m c main_v0 = shapeCast S4x5120 (m ((c : Thread nD τ).loc main_arg0)) shapeCasts_S4x1x5120_S4x5120 := by
  show StableHlo.after hostOps0 _ (Proc.devRef .tc main_v0) = _
  after_results
  rfl

/-- The scales the region finds: the argument transposed. -/
theorem V_scales : V m c main_v1 =
    transpose S160x27648 [1, 0] (m ((c : Thread nD τ).loc main_arg2)) transposes_S27648x160_S160x27648_1_0 := by
  show StableHlo.after hostOps0 _ (Proc.devRef .tc main_v1) = _
  after_results

/-- The blocks the four windows are at, at every point. -/
theorem idx_all : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- There are 27 points. -/
theorem t_lt (t : Fin cfg0.N) : t.val < 27 := lt_of_lt_of_eq t.isLt N_0

/-- Dropping the middle axis keeps every entry. -/
theorem rows_apply (x : FVec Ideal S4x1x5120 .bf16) (b : Fin 4) (k : Fin 5120) :
    shapeCast S4x5120 x shapeCasts_S4x1x5120_S4x5120 (ix2 b k) = x (ix3 b 0 k) :=
  shapeCast_apply x shapeCasts_S4x1x5120_S4x5120 (ix2 b k) (ix3 b 0 k) (by
    rewrite [Shape.rowMajor_val_two, Shape.rowMajor_val_three]
    show (b.val * 1 + 0) * 5120 + k.val = b.val * 5120 + k.val
    omega)

/-- The first window's block: every point sees all the rows. -/
theorem iblk_rows (t : Fin cfg0.N) (b : Fin 4) (k : Fin 5120) :
    (iblk m c 0 t : Vec Ideal S4x5120 .bf16) (ix2 b k) = m ((c : Thread nD τ).loc main_arg0) (ix3 b 0 k) := by
  obtain ⟨e0, e1, -⟩ := idx_all t
  unfold iblk
  rw [View.read_apply, cast_eq]
  have e : ((cfg0.win 0).blk t).view.emb (ix2 b k) = (ix2 b k : S4x5120.Idx) := by
    funext d
    match d with
    | ⟨0, _⟩ => ext; show win0_0.index t (0 : Fin 2) * 4 + 1 * b.val = b.val; omega
    | ⟨1, _⟩ => ext; show win0_0.index t (1 : Fin 2) * 5120 + 1 * k.val = k.val; omega
  rw [e]
  show V m c main_v0 (ix2 b k) = _
  rw [V_rows]
  exact rows_apply _ b k

/-- The second window's block: each point sees its own 1024 rows of weight bytes. -/
theorem iblk_weights (t : Fin cfg0.N) (o : Fin 1024) (p : Fin 2560) :
    (iblk m c 1 t : Vec Ideal S1024x2560 .i8) (ix2 o p) =
      m ((c : Thread nD τ).loc main_arg1) (ix2 ⟨1024 * t.val + o.val, by have := t_lt t; omega⟩ p) := by
  have ht := t_lt t
  obtain ⟨-, -, e0, e1, -⟩ := idx_all t
  unfold iblk
  rw [View.read_apply, cast_eq]
  have e : ((cfg0.win 1).blk t).view.emb (ix2 o p) = (ix2 ⟨1024 * t.val + o.val, by omega⟩ p : S27648x2560.Idx) := by
    funext d
    match d with
    | ⟨0, _⟩ => ext; show win0_1.index t (0 : Fin 2) * 1024 + 1 * o.val = 1024 * t.val + o.val; omega
    | ⟨1, _⟩ => ext; show win0_1.index t (1 : Fin 2) * 2560 + 1 * p.val = p.val; omega
  rw [e]
  show V m c main_arg1 _ = _
  rw [V_main_arg1]

/-- The third window's block: each point sees its own 1024 outputs' scale bytes, one column each. -/
theorem iblk_scales (t : Fin cfg0.N) (G : Fin 160) (o : Fin 1024) :
    (iblk m c 2 t : Vec Ideal S160x1024 .i8) (ix2 G o) =
      m ((c : Thread nD τ).loc main_arg2) (ix2 ⟨1024 * t.val + o.val, by have := t_lt t; omega⟩ G) := by
  have ht := t_lt t
  obtain ⟨-, -, -, -, e0, e1⟩ := idx_all t
  unfold iblk
  rw [View.read_apply, cast_eq]
  have e : ((cfg0.win 2).blk t).view.emb (ix2 G o) = (ix2 G ⟨1024 * t.val + o.val, by omega⟩ : S160x27648.Idx) := by
    funext d
    match d with
    | ⟨0, _⟩ => ext; show win0_2.index t (0 : Fin 2) * 160 + 1 * G.val = G.val; omega
    | ⟨1, _⟩ => ext; show win0_2.index t (1 : Fin 2) * 1024 + 1 * o.val = 1024 * t.val + o.val; omega
  rw [e]
  show V m c main_v1 _ = _
  rw [V_scales]
  pointwise

/-- After every point the left factor's scratch holds the argument laid out. -/
theorem scratch_apply : ∀ (n : ℕ) (hn : n < cfg0.N) (y : S80x32x256.Idx),
    (outsAt0 m c n hn).2 y = lhsFn (fun b k => m ((c : Thread nD τ).loc main_arg0) (ix3 b 0 k)) y
  | 0, hn, y => by
    rw [show outsAt0 m c 0 hn = _ from outsAt0_A m c ⟨0, hn⟩ rfl]
    refine (Cert.Body.scratch_A ..).trans ?_
    congr 1
    funext b k
    exact iblk_rows m c ⟨0, hn⟩ b k
  | n + 1, hn, y => by
    have h27 : n + 1 < 27 := lt_of_lt_of_eq hn N_0
    rw [show outsAt0 m c (n + 1) hn = _ from outsAt0_B m c ⟨n + 1, hn⟩ (by show ¬(n + 1) % 27 = 0; omega)]
    exact scratch_apply n (by omega) y

/-- What each point leaves in its block of the result. -/
theorem block_eq (hs : ∀ o G, (m ((c : Thread nD τ).loc main_arg2) (ix2 o G)).toNat ≤ 254)
    (t : Fin cfg0.N) (b : Fin 4) (o : Fin 1024) :
    (outsAt0 m c t.val t.isLt).1 (ix2 b o) =
      ∑ G : Fin 160, term (fun b k => m ((c : Thread nD τ).loc main_arg0) (ix3 b 0 k))
        (fun o p => (iblk m c 1 t : Vec Ideal S1024x2560 .i8) (ix2 o p))
        (fun o G => (iblk m c 2 t : Vec Ideal S160x1024 .i8) (ix2 G o)) b o G := by
  have hx2 : ∀ G o, ((iblk m c 2 t : Vec Ideal S160x1024 .i8) (ix2 G o)).toNat ≤ 254 := fun G o => by
    rw [iblk_scales]; exact hs _ _
  by_cases h0 : t.val % 27 = 0
  · rw [outsAt0_A m c t h0]
    refine (Cert.Body.block_A (hx2 := hx2) ..).trans ?_
    congr 1
    funext G
    congr 1
    funext b k
    exact iblk_rows m c t b k
  · rw [outsAt0_B m c t h0]
    exact Cert.Body.block_B c (ms0_1 t) (hs0_1 t) (ms0_2 t) (hs0_2 t) scM0_2 (Memref.isWhole_whole _) scM0_3 scM0_4
      (iblk m c 1 t) (iblk m c 2 t) _ (grid0.coords t) (ms0_0 t) (hs0_0 t) (ms0_3 t) (hs0_3 t)
      scM0_0 (Memref.isWhole_whole _) scM0_1 (Memref.isWhole_whole _) (Memref.isWhole_whole _) (Memref.isWhole_whole _)
      (iblk m c 0 t) (fun h => h0 ((hcond0_0 t).mp h)) hx2 _ (scratch_apply m c _ _) b o

/-- THE KERNEL'S RESULT, when no scale byte is 255. -/
theorem result (hs : ∀ o G, (m ((c : Thread nD τ).loc main_arg2) (ix2 o G)).toNat ≤ 254) (b : Fin 4) (o : Fin 27648) :
    Cert.KernelIdeal.Value.G3 m c (ix2 b o) = out (m ((c : Thread nD τ).loc main_arg0))
      (m ((c : Thread nD τ).loc main_arg1)) (m ((c : Thread nD τ).loc main_arg2)) b o := by
  have hp : Cert.KernelIdeal.Value.pt3Of (ix2 b o) = o.val / 1024 := by
    show 27 * (b.val / 4 - 0) + 1 * (o.val / 1024 - 0) = _
    omega
  have hlt : o.val / 1024 < cfg0.N := lt_of_lt_of_eq (show o.val / 1024 < 27 by omega) N_0.symm
  have hl : Cert.KernelIdeal.Value.loc3Of (ix2 b o) = ix2 b ⟨o.val % 1024, by omega⟩ := by
    funext d
    match d with
    | ⟨0, _⟩ => ext; show b.val % 4 = b.val; omega
    | ⟨1, _⟩ => rfl
  unfold Cert.KernelIdeal.Value.G3
  rw [dif_pos (by rw [hp]; exact hlt), hl, Cert.KernelIdeal.Value.fold0_congr m c _ _ _ (by omega) hp,
    ← Cert.KernelIdeal.Value.outsAt0_sweep]
  refine (block_eq m c hs ⟨o.val / 1024, hlt⟩ b ⟨o.val % 1024, by omega⟩).trans ?_
  unfold out term
  refine Finset.sum_congr rfl fun G _ => ?_
  have eo : (⟨1024 * (o.val / 1024) + o.val % 1024, by omega⟩ : Fin 27648) = o := by ext; simp only []; omega
  beta_reduce
  rw [iblk_scales m c ⟨o.val / 1024, hlt⟩, Fintype.sum_prod_type]
  simp only [eo]
  congr 1
  refine Finset.sum_congr rfl fun p _ => ?_
  rw [Fin.sum_univ_two]
  simp only [iblk_weights m c ⟨o.val / 1024, hlt⟩, eo]
  rfl

end Cert.KernelValue
-- ==== Proof.Precondition.lean ====
module

public import proofs.«01_k».proof.Pre_finite_scales
public import Idealize.ShloMosaic.Lib.Pointwise

@[expose] public section

/-! What the precondition says of the scale bytes. -/

noncomputable section

namespace Cert.Precondition

open Idealize.ShloMosaic Cert.Pre_finite_scales

/-- The side conditions the precondition's operations state. -/
theorem facts : Cert.Pre_finite_scales.Facts := ⟨by decide, by decide⟩

/-- The comparison the precondition makes of a byte. -/
theorem byte_bound (e : BitVec 8) (h : IntOp.cmpi .sle (e.setWidth 32) 254#32 = 1#1) : e.toNat ≤ 254 := by
  revert h; revert e; decide +kernel

/-- Under the precondition every scale byte is at most 254. -/
theorem scale_bound [Cert.Pre_finite_scales.Facts] (x : FVec Ideal S4x1x5120 .bf16) (w : IVec S27648x2560 8)
    (s : IVec S27648x160 8) (h : Cert.Pre_finite_scales.fn (F := Ideal) x w s = fun _ => 1#1) (o : Fin 27648) (G : Fin 160) :
    (s (ix2 o G)).toNat ≤ 254 := by
  refine byte_bound _ ?_
  rw [← congrFun h (ix2 o G)]
  unfold Cert.Pre_finite_scales.fn
  pointwise

end Cert.Precondition
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.KernelIdeal.Value
public import proofs.«01_k».proof.Proof.Gen.ReferenceIdeal.Run
public import proofs.«01_k».proof.Proof.RefValue
public import proofs.«01_k».proof.Proof.KernelValue
public import proofs.«01_k».proof.Proof.Precondition
public import proofs.«01_k».proof.Proof.Gen.Kernel.Frame
public import Idealize.ShloMosaic.Init

@[expose] public section

noncomputable section

namespace Cert.Proof

open Idealize.ShloMosaic Idealize.SL.Sem Cert.Kernel

/-- The reference runs to the end, leaves its arguments as they were and every semaphore at zero. -/
theorem frame_reference [h : Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, and whose scale bytes the precondition bounds, the reference's result array
    and the kernel's hold the same number at every index: both hold `Cert.Spec.out` of the arguments. -/
theorem results_eq [Cert.Pre_finite_scales.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_scales.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1)
    (h0 : m' ((c.tc : Thread Cert.ReferenceIdeal.nD Cert.ReferenceIdeal.τ).loc Cert.ReferenceIdeal.main_arg0) =
      m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) =
      m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) =
      m ((c.tc : Thread Cert.KernelIdeal.nD Cert.KernelIdeal.τ).loc Cert.KernelIdeal.main_arg2)) :
    Cert.ReferenceIdeal.Value.res_main_v81 m' c = Cert.KernelIdeal.Value.G3 m c := by
  rw [Cert.ReferenceIdeal.Read.val_main_v81_eq]
  funext i
  obtain ⟨b, o, rfl⟩ : ∃ (b : Fin 4) (o : Fin 27648), i = ix2 b o := ⟨_, _, eq_ix2 i⟩
  refine (Cert.RefValue.result _ _ _ b o).trans ?_
  rw [h0, h1, h2]
  exact (Cert.KernelValue.result m c (Cert.Precondition.scale_bound _ _ _ hpre) b o).symm

/-- The kernel and the reference, both read over the extended reals, end with equal results when no scale byte is 255. -/
theorem algebraic [h : Cert.Pre_finite_scales.Facts] :
    Cert.algebraic_KernelIdeal_ReferenceIdeal_pre_finite_scales (hKernelIdeal := Cert.KernelIdeal.Gen.facts)
      (hReferenceIdeal := Cert.ReferenceIdeal.Gen.facts) := fun m g m' g' hpre hargs =>
  ⟨fun c => Cert.KernelIdeal.Value.G3 m c, Cert.KernelIdeal.Value.run m g,
    (θ_run Cert.ReferenceIdeal.defs _ _).mono
      (fun r h c => ⟨(h c).1.trans (results_eq m m' c (hpre c) (hargs c).1 (hargs c).2.1 (hargs c).2.2), (h c).2⟩)
      (Cert.ReferenceIdeal.Value.run (F := Ideal) m' g')⟩

/-- The claims, each with the run that proves it. -/
theorem claim : Cert.Claim :=
  ⟨Cert.Kernel.Gen.facts, Cert.KernelIdeal.Gen.facts, Cert.ReferenceIdeal.Gen.facts, Cert.Precondition.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    algebraic (h := Cert.Precondition.facts)⟩

end Cert.Proof

end
